-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_u_finite [hPre_u_finite : Cert.Pre_u_finite.Facts] (m : (ℓ : Loc Cert.KernelIdeal.nD Cert.KernelIdeal.τ Cert.KernelIdeal.sig) → Buf (Elt Ideal) ℓ) : Prop :=
  ∀ c : Dev Cert.KernelIdeal.nD,
    (Cert.Pre_u_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_u_finite [hPre_u_finite : Cert.Pre_u_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_u_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_u_finite [hKernelIdeal : Cert.KernelIdeal.Facts] [hPre_u_finite : Cert.Pre_u_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_u_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_u_finite [hReferenceIdeal : Cert.ReferenceIdeal.Facts] [hPre_u_finite : Cert.Pre_u_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_u_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def preserves_Kernel_KernelIdeal : Prop :=
  True

def algebraic_KernelIdeal_ReferenceIdeal_pre_u_finite [hKernelIdeal : Cert.KernelIdeal.Facts] [hReferenceIdeal : Cert.ReferenceIdeal.Facts] [hPre_u_finite : Cert.Pre_u_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_u_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v45_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_u_finite : Cert.Pre_u_finite.Facts),
    quiescent_Kernel (hKernel := hKernel)
    ∧ quiescent_KernelIdeal (hKernelIdeal := hKernelIdeal)
    ∧ quiescent_KernelIdeal_pre_u_finite (hKernelIdeal := hKernelIdeal) (hPre_u_finite := hPre_u_finite)
    ∧ quiescent_ReferenceIdeal (hReferenceIdeal := hReferenceIdeal)
    ∧ quiescent_ReferenceIdeal_pre_u_finite (hReferenceIdeal := hReferenceIdeal) (hPre_u_finite := hPre_u_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_u_finite (hKernelIdeal := hKernelIdeal) (hReferenceIdeal := hReferenceIdeal) (hPre_u_finite := hPre_u_finite)
    ∧ preserves_Kernel2_Kernel2Ideal
    ∧ algebraic_Kernel2Ideal_Reference2Ideal (hKernel2Ideal := hKernel2Ideal) (hReference2Ideal := hReference2Ideal)
-- ==== Pre_u_finite.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1024 : Shape := ⟨1, ![1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S_ : Shape := ⟨0, ![]⟩

class Facts : Prop where
  bcast_S_S16x2048x512 : S_.BroadcastsInDim S16x2048x512 (![] : Fin 0 → Fin S16x2048x512.rank)

variable [Facts]

def fn {F : FTy → Type} [FloatOps F] (main_arg0 : FVec F S16x2048x1024 .f32) (main_arg1 : FVec F S16x2048x512 .f32) (main_arg2 : FVec F S16x2048x512 .f32) (main_arg3 : FVec F S1x16x2048x256 .f32) (main_arg4 : FVec F S1024 .f32) (main_arg5 : FVec F S1024 .f32) (main_arg6 : FVec F S1x4x128x128 .f32) (main_arg7 : FVec F S1x512 .f32) (main_arg8 : FVec F S1x1024x1024 .f32) (main_arg9 : FVec F S1x1024 .f32) (main_arg10 : FVec F S1x1024 .f32) (main_arg11 : FVec F S1x1024x2816 .f32) (main_arg12 : FVec F S1x1024x2816 .f32) (main_arg13 : FVec F S1x2816x1024 .f32) (main_arg14 : FVec F S1x256x1024 .f32) (main_arg15 : FVec F S1x1024x1024 .f32) (main_arg16 : FVec F S1x1024 .f32) (main_arg17 : FVec F S1x1024 .f32) : IVec S16x2048x512 1 :=
  let main_v0 : FVec F S16x2048x512 .f32 := Host.absf main_arg2
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  main_v2
-- ==== Kernel.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1024 : Shape := ⟨1, ![1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S4x128x128 : Shape := ⟨3, ![4, 128, 128]⟩
abbrev S512 : Shape := ⟨1, ![512]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S32768x1024 : Shape := ⟨2, ![32768, 1024]⟩
abbrev S32768x512 : Shape := ⟨2, ![32768, 512]⟩
abbrev S16x2048x256 : Shape := ⟨3, ![16, 2048, 256]⟩
abbrev S32768x256 : Shape := ⟨2, ![32768, 256]⟩
abbrev S512x1024 : Shape := ⟨2, ![512, 1024]⟩
abbrev S512x512 : Shape := ⟨2, ![512, 512]⟩
abbrev S16x512 : Shape := ⟨2, ![16, 512]⟩
abbrev S512x256 : Shape := ⟨2, ![512, 256]⟩
abbrev S256x1 : Shape := ⟨2, ![256, 1]⟩
abbrev S256x512 : Shape := ⟨2, ![256, 512]⟩
abbrev S272x512 : Shape := ⟨2, ![272, 512]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩
abbrev S256 : Shape := ⟨1, ![256]⟩
abbrev S256x256 : Shape := ⟨2, ![256, 256]⟩
abbrev S256x2816 : Shape := ⟨2, ![256, 2816]⟩

abbrev nBuf : Space → Nat
  | .hbm => 50
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x16x2048x256, .f32⟩
  | .hbm, ⟨4, _⟩ => ⟨S1024, .f32⟩
  | .hbm, ⟨5, _⟩ => ⟨S1024, .f32⟩
  | .hbm, ⟨6, _⟩ => ⟨S1x4x128x128, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1x256x1024, .f32⟩
  | .hbm, ⟨15, _⟩ => ⟨S1x1024x1024, .f32⟩
  | .hbm, ⟨16, _⟩ => ⟨S1x1024, .f32⟩
  | .hbm, ⟨17, _⟩ => ⟨S1x1024, .f32⟩
  | .hbm, ⟨18, _⟩ => ⟨S4x128x128, .f32⟩
  | .hbm, ⟨19, _⟩ => ⟨S512, .f32⟩
  | .hbm, ⟨20, _⟩ => ⟨S1024x1024, .f32⟩
  | .hbm, ⟨21, _⟩ => ⟨S1024, .f32⟩
  | .hbm, ⟨22, _⟩ => ⟨S1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S256x1024, .f32⟩
  | .hbm, ⟨27, _⟩ => ⟨S1024x1024, .f32⟩
  | .hbm, ⟨28, _⟩ => ⟨S1024, .f32⟩
  | .hbm, ⟨29, _⟩ => ⟨S1024, .f32⟩
  | .hbm, ⟨30, _⟩ => ⟨S32768x1024, .f32⟩
  | .hbm, ⟨31, _⟩ => ⟨S32768x512, .f32⟩
  | .hbm, ⟨32, _⟩ => ⟨S32768x512, .f32⟩
  | .hbm, ⟨33, _⟩ => ⟨S16x2048x256, .f32⟩
  | .hbm, ⟨34, _⟩ => ⟨S32768x256, .f32⟩
  | .hbm, ⟨35, _⟩ => ⟨S1x1024, .f32⟩
  | .hbm, ⟨36, _⟩ => ⟨S1x1024, .f32⟩
  | .hbm, ⟨37, _⟩ => ⟨S4x128x128, .bf16⟩
  | .hbm, ⟨38, _⟩ => ⟨S1x512, .f32⟩
  | .hbm, ⟨39, _⟩ => ⟨S1024x1024, .bf16⟩
  | .hbm, ⟨40, _⟩ => ⟨S1x1024, .f32⟩
  | .hbm, ⟨41, _⟩ => ⟨S1x1024, .f32⟩
  | .hbm, ⟨42, _⟩ => ⟨S1024x2816, .bf16⟩
  | .hbm, ⟨43, _⟩ => ⟨S1024x2816, .bf16⟩
  | .hbm, ⟨44, _⟩ => ⟨S2816x1024, .bf16⟩
  | .hbm, ⟨45, _⟩ => ⟨S1024x1024, .bf16⟩
  | .hbm, ⟨46, _⟩ => ⟨S256x1024, .bf16⟩
  | .hbm, ⟨47, _⟩ => ⟨S1x1024, .f32⟩
  | .hbm, ⟨48, _⟩ => ⟨S1x1024, .f32⟩
  | .hbm, ⟨49, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1x1024, .f32⟩
  | .local _ .vmem, ⟨12, _⟩ => ⟨S4x128x128, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S1024x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1024 : Shape := ⟨1, ![1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S4x128x128 : Shape := ⟨3, ![4, 128, 128]⟩
abbrev S512 : Shape := ⟨1, ![512]⟩
abbrev S16x2048x4x128 : Shape := ⟨4, ![16, 2048, 4, 128]⟩
abbrev S2048 : Shape := ⟨1, ![2048]⟩
abbrev S16x2048x1x128 : Shape := ⟨4, ![16, 2048, 1, 128]⟩
abbrev S16x2048x128 : Shape := ⟨3, ![16, 2048, 128]⟩
abbrev S16x2050x128 : Shape := ⟨3, ![16, 2050, 128]⟩
abbrev S1x2048x1 : Shape := ⟨3, ![1, 2048, 1]⟩
abbrev S16x2052x128 : Shape := ⟨3, ![16, 2052, 128]⟩
abbrev S16x2056x128 : Shape := ⟨3, ![16, 2056, 128]⟩
abbrev S16x2064x128 : Shape := ⟨3, ![16, 2064, 128]⟩
abbrev S4x128x16x2048 : Shape := ⟨4, ![4, 128, 16, 2048]⟩
abbrev S1x1x512 : Shape := ⟨3, ![1, 1, 512]⟩
abbrev S1024x1024 : Shape := ⟨2, ![1024, 1024]⟩
abbrev S1024x2816 : Shape := ⟨2, ![1024, 2816]⟩
abbrev S16x2048x2816 : Shape := ⟨3, ![16, 2048, 2816]⟩
abbrev S2816x1024 : Shape := ⟨2, ![2816, 1024]⟩
abbrev S16x2048x256 : Shape := ⟨3, ![16, 2048, 256]⟩
abbrev S256x1024 : Shape := ⟨2, ![256, 1024]⟩
abbrev S32768x1024 : Shape := ⟨2, ![32768, 1024]⟩

abbrev nBuf : Space → Nat
  | .hbm => 238
  | .vmem => 0
  | .smem => 0
  | _ => 0

abbrev hbmTy0_0 (i : Nat) : BufTy := match i % 128 with
  | 0 => ⟨S16x2048x1024, .f32⟩
  | 1 => ⟨S16x2048x512, .f32⟩
  | 2 => ⟨S16x2048x512, .f32⟩
  | 3 => ⟨S1x16x2048x256, .f32⟩
  | 4 => ⟨S1024, .f32⟩
  | 5 => ⟨S1024, .f32⟩
  | 6 => ⟨S1x4x128x128, .f32⟩
  | 7 => ⟨S1x512, .f32⟩
  | 8 => ⟨S1x1024x1024, .f32⟩
  | 9 => ⟨S1x1024, .f32⟩
  | 10 => ⟨S1x1024, .f32⟩
  | 11 => ⟨S1x1024x2816, .f32⟩
  | 12 => ⟨S1x1024x2816, .f32⟩
  | 13 => ⟨S1x2816x1024, .f32⟩
  | 14 => ⟨S1x256x1024, .f32⟩
  | 15 => ⟨S1x1024x1024, .f32⟩
  | 16 => ⟨S1x1024, .f32⟩
  | 17 => ⟨S1x1024, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S16x2048x1024, .f32⟩
  | 25 => ⟨S16x2048x1024, .f32⟩
  | 26 => ⟨S16x2048x1024, .f32⟩
  | 27 => ⟨S_, .f32⟩
  | 28 => ⟨S16x2048, .f32⟩
  | 29 => ⟨S16x2048x1, .f32⟩
  | 30 => ⟨S_, .f32⟩
  | 31 => ⟨S16x2048x1, .f32⟩
  | 32 => ⟨S16x2048x1, .f32⟩
  | 33 => ⟨S16x2048x1024, .f32⟩
  | 34 => ⟨S16x2048x1024, .f32⟩
  | 35 => ⟨S_, .f32⟩
  | 36 => ⟨S16x2048x1, .f32⟩
  | 37 => ⟨S16x2048x1, .f32⟩
  | 38 => ⟨S16x2048x1, .f32⟩
  | 39 => ⟨S16x2048x1024, .f32⟩
  | 40 => ⟨S16x2048x1024, .f32⟩
  | 41 => ⟨S1x1x1024, .f32⟩
  | 42 => ⟨S16x2048x1024, .f32⟩
  | 43 => ⟨S16x2048x1024, .f32⟩
  | 44 => ⟨S1x1x1024, .f32⟩
  | 45 => ⟨S16x2048x1024, .f32⟩
  | 46 => ⟨S16x2048x1024, .f32⟩
  | 47 => ⟨S4x128x128, .f32⟩
  | 48 => ⟨S512, .f32⟩
  | 49 => ⟨S16x2048x4x128, .f32⟩
  | 50 => ⟨S_, .f32⟩
  | 51 => ⟨S_, .f32⟩
  | 52 => ⟨S16x2048x4x128, .f32⟩
  | 53 => ⟨S2048, .i32⟩
  | 54 => ⟨S_, .i32⟩
  | 55 => ⟨S2048, .i32⟩
  | 56 => ⟨S2048, .i32⟩
  | 57 => ⟨S2048, .f32⟩
  | 58 => ⟨S16x2048x1x128, .f32⟩
  | 59 => ⟨S16x2048x128, .f32⟩
  | 60 => ⟨S_, .i32⟩
  | 61 => ⟨S_, .f32⟩
  | 62 => ⟨S16x2050x128, .f32⟩
  | 63 => ⟨S16x2048x128, .f32⟩
  | 64 => ⟨S_, .f32⟩
  | 65 => ⟨S2048, .f32⟩
  | 66 => ⟨S2048, .f32⟩
  | 67 => ⟨S16x2048x128, .f32⟩
  | 68 => ⟨S1x2048x1, .f32⟩
  | 69 => ⟨S16x2048x128, .f32⟩
  | 70 => ⟨S16x2048x128, .f32⟩
  | 71 => ⟨S16x2048x1x128, .f32⟩
  | 72 => ⟨S16x2048x128, .f32⟩
  | 73 => ⟨S16x2048x128, .f32⟩
  | 74 => ⟨S16x2048x1x128, .f32⟩
  | 75 => ⟨S16x2048x128, .f32⟩
  | 76 => ⟨S_, .i32⟩
  | 77 => ⟨S_, .f32⟩
  | 78 => ⟨S16x2052x128, .f32⟩
  | 79 => ⟨S16x2048x128, .f32⟩
  | 80 => ⟨S_, .f32⟩
  | 81 => ⟨S2048, .f32⟩
  | 82 => ⟨S2048, .f32⟩
  | 83 => ⟨S16x2048x128, .f32⟩
  | 84 => ⟨S1x2048x1, .f32⟩
  | 85 => ⟨S16x2048x128, .f32⟩
  | 86 => ⟨S16x2048x128, .f32⟩
  | 87 => ⟨S16x2048x1x128, .f32⟩
  | 88 => ⟨S16x2048x128, .f32⟩
  | 89 => ⟨S16x2048x128, .f32⟩
  | 90 => ⟨S16x2048x1x128, .f32⟩
  | 91 => ⟨S16x2048x128, .f32⟩
  | 92 => ⟨S_, .i32⟩
  | 93 => ⟨S_, .f32⟩
  | 94 => ⟨S16x2056x128, .f32⟩
  | 95 => ⟨S16x2048x128, .f32⟩
  | 96 => ⟨S_, .f32⟩
  | 97 => ⟨S2048, .f32⟩
  | 98 => ⟨S2048, .f32⟩
  | 99 => ⟨S16x2048x128, .f32⟩
  | 100 => ⟨S1x2048x1, .f32⟩
  | 101 => ⟨S16x2048x128, .f32⟩
  | 102 => ⟨S16x2048x128, .f32⟩
  | 103 => ⟨S16x2048x1x128, .f32⟩
  | 104 => ⟨S16x2048x128, .f32⟩
  | 105 => ⟨S16x2048x128, .f32⟩
  | 106 => ⟨S16x2048x1x128, .f32⟩
  | 107 => ⟨S16x2048x128, .f32⟩
  | 108 => ⟨S_, .i32⟩
  | 109 => ⟨S_, .f32⟩
  | 110 => ⟨S16x2064x128, .f32⟩
  | 111 => ⟨S16x2048x128, .f32⟩
  | 112 => ⟨S_, .f32⟩
  | 113 => ⟨S2048, .f32⟩
  | 114 => ⟨S2048, .f32⟩
  | 115 => ⟨S16x2048x128, .f32⟩
  | 116 => ⟨S1x2048x1, .f32⟩
  | 117 => ⟨S16x2048x128, .f32⟩
  | 118 => ⟨S16x2048x128, .f32⟩
  | 119 => ⟨S16x2048x1x128, .f32⟩
  | 120 => ⟨S16x2048x128, .f32⟩
  | 121 => ⟨S16x2048x128, .f32⟩
  | 122 => ⟨S16x2048x1x128, .f32⟩
  | 123 => ⟨S16x2048x1x128, .f32⟩
  | 124 => ⟨S16x2048x1x128, .f32⟩
  | 125 => ⟨S16x2048x1x128, .f32⟩
  | 126 => ⟨S16x2048x4x128, .f32⟩
  | 127 => ⟨S4x128x16x2048, .f32⟩
  | _ => ⟨S16x2048x1024, .f32⟩

abbrev hbmTy0_1 (i : Nat) : BufTy := match i % 128 with
  | 0 => ⟨S16x2048x4x128, .f32⟩
  | 1 => ⟨S16x2048x512, .f32⟩
  | 2 => ⟨S1x1x512, .f32⟩
  | 3 => ⟨S16x2048x512, .f32⟩
  | 4 => ⟨S16x2048x512, .f32⟩
  | 5 => ⟨S16x2048x1024, .f32⟩
  | 6 => ⟨S1024x1024, .f32⟩
  | 7 => ⟨S16x2048x1024, .f32⟩
  | 8 => ⟨S_, .f32⟩
  | 9 => ⟨S16x2048x1024, .f32⟩
  | 10 => ⟨S16x2048x1024, .f32⟩
  | 11 => ⟨S16x2048x1024, .f32⟩
  | 12 => ⟨S1024, .f32⟩
  | 13 => ⟨S1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S16x2048x1024, .f32⟩
  | 21 => ⟨S16x2048x1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S16x2048x1024, .f32⟩
  | 30 => ⟨S16x2048x1024, .f32⟩
  | 31 => ⟨S_, .f32⟩
  | 32 => ⟨S16x2048x1, .f32⟩
  | 33 => ⟨S16x2048x1, .f32⟩
  | 34 => ⟨S16x2048x1, .f32⟩
  | 35 => ⟨S16x2048x1024, .f32⟩
  | 36 => ⟨S16x2048x1024, .f32⟩
  | 37 => ⟨S1x1x1024, .f32⟩
  | 38 => ⟨S16x2048x1024, .f32⟩
  | 39 => ⟨S16x2048x1024, .f32⟩
  | 40 => ⟨S1x1x1024, .f32⟩
  | 41 => ⟨S16x2048x1024, .f32⟩
  | 42 => ⟨S16x2048x1024, .f32⟩
  | 43 => ⟨S1024x2816, .f32⟩
  | 44 => ⟨S16x2048x2816, .f32⟩
  | 45 => ⟨S16x2048x2816, .f32⟩
  | 46 => ⟨S16x2048x2816, .f32⟩
  | 47 => ⟨S_, .f32⟩
  | 48 => ⟨S16x2048x2816, .f32⟩
  | 49 => ⟨S16x2048x2816, .f32⟩
  | 50 => ⟨S_, .f32⟩
  | 51 => ⟨S16x2048x2816, .f32⟩
  | 52 => ⟨S16x2048x2816, .f32⟩
  | 53 => ⟨S16x2048x2816, .f32⟩
  | 54 => ⟨S1024x2816, .f32⟩
  | 55 => ⟨S16x2048x2816, .f32⟩
  | 56 => ⟨S16x2048x2816, .f32⟩
  | 57 => ⟨S2816x1024, .f32⟩
  | 58 => ⟨S16x2048x1024, .f32⟩
  | 59 => ⟨S1024x1024, .f32⟩
  | 60 => ⟨S16x2048x1024, .f32⟩
  | 61 => ⟨S16x2048x1024, .f32⟩
  | 62 => ⟨S16x2048x1024, .f32⟩
  | 63 => ⟨S_, .f32⟩
  | 64 => ⟨S16x2048x1024, .f32⟩
  | 65 => ⟨S16x2048x1024, .f32⟩
  | 66 => ⟨S_, .f32⟩
  | 67 => ⟨S16x2048x1024, .f32⟩
  | 68 => ⟨S16x2048x1024, .f32⟩
  | 69 => ⟨S16x2048x256, .f32⟩
  | 70 => ⟨S256x1024, .f32⟩
  | 71 => ⟨S16x2048x1024, .f32⟩
  | 72 => ⟨S16x2048x1024, .f32⟩
  | 73 => ⟨S_, .f32⟩
  | 74 => ⟨S16x2048x1024, .f32⟩
  | 75 => ⟨S16x2048x1024, .f32⟩
  | 76 => ⟨S16x2048x1024, .f32⟩
  | 77 => ⟨S16x2048x1024, .f32⟩
  | 78 => ⟨S1024, .f32⟩
  | 79 => ⟨S1024, .f32⟩
  | 80 => ⟨S_, .f32⟩
  | 81 => ⟨S16x2048, .f32⟩
  | 82 => ⟨S16x2048x1, .f32⟩
  | 83 => ⟨S_, .f32⟩
  | 84 => ⟨S16x2048x1, .f32⟩
  | 85 => ⟨S16x2048x1, .f32⟩
  | 86 => ⟨S16x2048x1024, .f32⟩
  | 87 => ⟨S16x2048x1024, .f32⟩
  | 88 => ⟨S16x2048x1024, .f32⟩
  | 89 => ⟨S_, .f32⟩
  | 90 => ⟨S16x2048, .f32⟩
  | 91 => ⟨S16x2048x1, .f32⟩
  | 92 => ⟨S_, .f32⟩
  | 93 => ⟨S16x2048x1, .f32⟩
  | 94 => ⟨S16x2048x1, .f32⟩
  | 95 => ⟨S16x2048x1024, .f32⟩
  | 96 => ⟨S16x2048x1024, .f32⟩
  | 97 => ⟨S_, .f32⟩
  | 98 => ⟨S16x2048x1, .f32⟩
  | 99 => ⟨S16x2048x1, .f32⟩
  | 100 => ⟨S16x2048x1, .f32⟩
  | 101 => ⟨S16x2048x1024, .f32⟩
  | 102 => ⟨S16x2048x1024, .f32⟩
  | 103 => ⟨S1x1x1024, .f32⟩
  | 104 => ⟨S16x2048x1024, .f32⟩
  | 105 => ⟨S16x2048x1024, .f32⟩
  | 106 => ⟨S1x1x1024, .f32⟩
  | 107 => ⟨S16x2048x1024, .f32⟩
  | 108 => ⟨S16x2048x1024, .f32⟩
  | 109 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_call0_cst : Ref sig .tc := ⟨.hbm, 50, rfl⟩
abbrev main_call0_call0_v0 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_4 : Ref sig .tc := ⟨.hbm, 60, rfl⟩
abbrev main_call1_v0 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_call2_v0 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_8 : Ref sig .tc := ⟨.hbm, 92, rfl⟩
abbrev main_call3_v0 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_10 : Ref sig .tc := ⟨.hbm, 108, rfl⟩
abbrev main_call4_v0 : Ref sig .tc := ⟨.hbm, 109, rfl⟩
abbrev main_v73 : Ref sig .tc := ⟨.hbm, 110, rfl⟩
abbrev main_v74 : Ref sig .tc := ⟨.hbm, 111, rfl⟩
abbrev main_cst_11 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_13 : Ref sig .tc := ⟨.hbm, 142, rfl⟩
abbrev main_v103 : Ref sig .tc := ⟨.hbm, 143, rfl⟩
abbrev main_v104 : Ref sig .tc := ⟨.hbm, 144, rfl⟩
abbrev main_cst_14 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_15 : Ref sig .tc := ⟨.hbm, 151, rfl⟩
abbrev main_v110 : Ref sig .tc := ⟨.hbm, 152, rfl⟩
abbrev main_v111 : Ref sig .tc := ⟨.hbm, 153, rfl⟩
abbrev main_cst_16 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_17 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_call5_v0 : Ref sig .tc := ⟨.hbm, 173, rfl⟩
abbrev main_call5_v1 : Ref sig .tc := ⟨.hbm, 174, rfl⟩
abbrev main_call5_cst : Ref sig .tc := ⟨.hbm, 175, rfl⟩
abbrev main_call5_v2 : Ref sig .tc := ⟨.hbm, 176, rfl⟩
abbrev main_call5_v3 : Ref sig .tc := ⟨.hbm, 177, rfl⟩
abbrev main_call5_cst_0 : Ref sig .tc := ⟨.hbm, 178, rfl⟩
abbrev main_call5_v4 : Ref sig .tc := ⟨.hbm, 179, rfl⟩
abbrev main_call5_v5 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_18 : Ref sig .tc := ⟨.hbm, 191, rfl⟩
abbrev main_v139 : Ref sig .tc := ⟨.hbm, 192, rfl⟩
abbrev main_v140 : Ref sig .tc := ⟨.hbm, 193, rfl⟩
abbrev main_cst_19 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_20 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_21 : Ref sig .tc := ⟨.hbm, 208, rfl⟩
abbrev main_v153 : Ref sig .tc := ⟨.hbm, 209, rfl⟩
abbrev main_v154 : Ref sig .tc := ⟨.hbm, 210, rfl⟩
abbrev main_cst_22 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_23 : Ref sig .tc := ⟨.hbm, 217, rfl⟩
abbrev main_v160 : Ref sig .tc := ⟨.hbm, 218, rfl⟩
abbrev main_v161 : Ref sig .tc := ⟨.hbm, 219, rfl⟩
abbrev main_cst_24 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_25 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1x1024x2304 : Shape := ⟨3, ![1, 1024, 2304]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S1024x2304 : Shape := ⟨2, ![1024, 2304]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S32768x1024 : Shape := ⟨2, ![32768, 1024]⟩
abbrev S_ : Shape := ⟨0, ![]⟩
abbrev S128x1024 : Shape := ⟨2, ![128, 1024]⟩
abbrev S1 : Shape := ⟨1, ![1]⟩
abbrev S2 : Shape := ⟨1, ![2]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S64x64 : Shape := ⟨2, ![64, 64]⟩
abbrev S1x1024 : Shape := ⟨2, ![1, 1024]⟩
abbrev S32768x512 : Shape := ⟨2, ![32768, 512]⟩
abbrev S512x1024 : Shape := ⟨2, ![512, 1024]⟩
abbrev S512x512 : Shape := ⟨2, ![512, 512]⟩
abbrev S512x2304 : Shape := ⟨2, ![512, 2304]⟩
abbrev S8x1792 : Shape := ⟨2, ![8, 1792]⟩
abbrev S4x128x128 : Shape := ⟨3, ![4, 128, 128]⟩
abbrev S512x1792 : Shape := ⟨2, ![512, 1792]⟩
abbrev S512x1 : Shape := ⟨2, ![512, 1]⟩
abbrev S1024x1280 : Shape := ⟨2, ![1024, 1280]⟩
abbrev S512x1280 : Shape := ⟨2, ![512, 1280]⟩
abbrev S512x128 : Shape := ⟨2, ![512, 128]⟩
abbrev S1024x768 : Shape := ⟨2, ![1024, 768]⟩
abbrev S512x768 : Shape := ⟨2, ![512, 768]⟩
abbrev S1024x256 : Shape := ⟨2, ![1024, 256]⟩
abbrev S512x256 : Shape := ⟨2, ![512, 256]⟩
abbrev S64x256 : Shape := ⟨2, ![64, 256]⟩
abbrev S256x256 : Shape := ⟨2, ![256, 256]⟩
abbrev S1x128x128 : Shape := ⟨3, ![1, 128, 128]⟩
abbrev S1x256 : Shape := ⟨2, ![1, 256]⟩
abbrev S128x256 : Shape := ⟨2, ![128, 256]⟩
abbrev S64x128 : Shape := ⟨2, ![64, 128]⟩
abbrev S256x128 : Shape := ⟨2, ![256, 128]⟩

abbrev nBuf : Space → Nat
  | .hbm => 93
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x2304, .f32⟩
  | .hbm, ⟨4, _⟩ => ⟨S1x1792, .f32⟩
  | .hbm, ⟨5, _⟩ => ⟨S1x512, .f32⟩
  | .hbm, ⟨6, _⟩ => ⟨S1x64x512, .f32⟩
  | .hbm, ⟨7, _⟩ => ⟨S1x512, .f32⟩
  | .hbm, ⟨8, _⟩ => ⟨S1x64x512, .f32⟩
  | .hbm, ⟨9, _⟩ => ⟨S1x128x512, .f32⟩
  | .hbm, ⟨10, _⟩ => ⟨S1x512, .f32⟩
  | .hbm, ⟨11, _⟩ => ⟨S1x512, .f32⟩
  | .hbm, ⟨12, _⟩ => ⟨S1x8x64, .f32⟩
  | .hbm, ⟨13, _⟩ => ⟨S1x512, .f32⟩
  | .hbm, ⟨14, _⟩ => ⟨S1x512, .f32⟩
  | .hbm, ⟨15, _⟩ => ⟨S1024x2304, .f32⟩
  | .hbm, ⟨16, _⟩ => ⟨S1792, .f32⟩
  | .hbm, ⟨17, _⟩ => ⟨S512, .f32⟩
  | .hbm, ⟨18, _⟩ => ⟨S64x512, .f32⟩
  | .hbm, ⟨19, _⟩ => ⟨S512, .f32⟩
  | .hbm, ⟨20, _⟩ => ⟨S64x512, .f32⟩
  | .hbm, ⟨21, _⟩ => ⟨S128x512, .f32⟩
  | .hbm, ⟨22, _⟩ => ⟨S512, .f32⟩
  | .hbm, ⟨23, _⟩ => ⟨S512, .f32⟩
  | .hbm, ⟨24, _⟩ => ⟨S8x64, .f32⟩
  | .hbm, ⟨25, _⟩ => ⟨S512, .f32⟩
  | .hbm, ⟨26, _⟩ => ⟨S512, .f32⟩
  | .hbm, ⟨27, _⟩ => ⟨S32768x1024, .f32⟩
  | .hbm, ⟨28, _⟩ => ⟨S_, .f32⟩
  | .hbm, ⟨29, _⟩ => ⟨S128x1024, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S128x1024, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S128x1024, .f32⟩
  | .hbm, ⟨42, _⟩ => ⟨S128x1024, .bf16⟩
  | .hbm, ⟨43, _⟩ => ⟨S128, .i32⟩
  | .hbm, ⟨44, _⟩ => ⟨S_, .i32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S128, .i1⟩
  | .hbm, ⟨58, _⟩ => ⟨S_, .i32⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S128x1, .i32⟩
  | .hbm, ⟨63, _⟩ => ⟨S1x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S128x128, .bf16⟩
  | .hbm, ⟨68, _⟩ => ⟨S_, .bf16⟩
  | .hbm, ⟨69, _⟩ => ⟨S64x64, .bf16⟩
  | .hbm, ⟨70, _⟩ => ⟨S64x64, .i32⟩
  | .hbm, ⟨71, _⟩ => ⟨S_, .i32⟩
  | .hbm, ⟨72, _⟩ => ⟨S64x64, .i32⟩
  | .hbm, ⟨73, _⟩ => ⟨S64x64, .i32⟩
  | .hbm, ⟨74, _⟩ => ⟨S64x64, .i32⟩
  | .hbm, ⟨75, _⟩ => ⟨S64x64, .i1⟩
  | .hbm, ⟨76, _⟩ => ⟨S_, .bf16⟩
  | .hbm, ⟨77, _⟩ => ⟨S64x64, .bf16⟩
  | .hbm, ⟨78, _⟩ => ⟨S64x64, .bf16⟩
  | .hbm, ⟨79, _⟩ => ⟨S1x1024, .f32⟩
  | .hbm, ⟨80, _⟩ => ⟨S1x1024, .f32⟩
  | .hbm, ⟨81, _⟩ => ⟨S1024x2304, .bf16⟩
  | .hbm, ⟨82, _⟩ => ⟨S1x1792, .f32⟩
  | .hbm, ⟨83, _⟩ => ⟨S1x512, .f32⟩
  | .hbm, ⟨84, _⟩ => ⟨S1x512, .f32⟩
  | .hbm, ⟨85, _⟩ => ⟨S128x512, .bf16⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S1x512, .f32⟩
  | .hbm, ⟨91, _⟩ => ⟨S32768x512, .f32⟩
  | .hbm, ⟨92, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2304, .bf16⟩
  | .local _ .vmem, ⟨5, _⟩ => ⟨S1x1792, .f32⟩
  | .local _ .vmem, ⟨6, _⟩ => ⟨S1x512, .f32⟩
  | .local _ .vmem, ⟨7, _⟩ => ⟨S1x512, .f32⟩
  | .local _ .vmem, ⟨8, _⟩ => ⟨S128x1024, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S128x128, .bf16⟩
  | .local _ .vmem, ⟨16, _⟩ => ⟨S64x64, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x2304, .f32⟩
  | .local _ .vmem, ⟨22, _⟩ => ⟨S8x1792, .f32⟩
  | .local _ .vmem, ⟨23, _⟩ => ⟨S4x128x128, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_cst : Ref sig .tc := ⟨.hbm, 76, rfl⟩
abbrev main_call1_v5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45_0 : Ref sig .tc := ⟨.hbm, 91, rfl⟩
abbrev main_v45_1 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![65], ![false]⟩

@[reducible] def k0_t1_loop (i : grid0.Coords) : Scf.Loop 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_99 : BitVec 32 := 1#32
  ⟨c0_i32_97, v221, c1_i32_99⟩
def k0_mult1 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32 : BitVec 32 := 8#32
  let v274 : BitVec 32 := Scalar.muli arg31 c8_i32
  let c0_i32_133 : BitVec 32 := 0#32
  let v275 : BitVec 32 := Scalar.addi v274 c0_i32_133
  let c0_i32_134 : BitVec 32 := 0#32
  let v276 : BitVec 32 := Scalar.addi v275 c0_i32_134
  let c64_i32_135 : BitVec 32 := 64#32
  let v277 : BitVec 32 := Scalar.muli v276 c64_i32_135
  v277
def k0_mult2 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32_136 : BitVec 32 := 8#32
  let v279 : BitVec 32 := Scalar.muli arg31 c8_i32_136
  let c0_i32_137 : BitVec 32 := 0#32
  let v280 : BitVec 32 := Scalar.addi v279 c0_i32_137
  let c1_i32_138 : BitVec 32 := 1#32
  let v281 : BitVec 32 := Scalar.addi v280 c1_i32_138
  let c64_i32_139 : BitVec 32 := 64#32
  let v282 : BitVec 32 := Scalar.muli v281 c64_i32_139
  v282
def k0_off1 (i : grid0.Coords) (k0_t1 : Fin (k0_t1_loop i).trips) (c0_i32_133 : BitVec 32) (c0_i32_134 : BitVec 32) : Fin 2 → Nat :=
  let c0_i32_97 : BitVec 32 := 0#32
  let c1_i32_99 : BitVec 32 := 1#32
  let arg31 : BitVec 32 := Scf.iv c0_i32_97 c1_i32_99 k0_t1
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v284 : Index := Scalar.indexCast v278
  let c0_140 : Index := 0#32
  ![v284.toNat, 0]
def k0_off2 (i : grid0.Coords) (k0_t1 : Fin (k0_t1_loop i).trips) (c0_i32_133 : BitVec 32) (c0_i32_134 : BitVec 32) : Fin 2 → Nat :=
  let c0_i32_97 : BitVec 32 := 0#32
  let c1_i32_99 : BitVec 32 := 1#32
  let arg31 : BitVec 32 := Scf.iv c0_i32_97 c1_i32_99 k0_t1
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v286 : Index := Scalar.indexCast v278
  let c256 : Index := 256#32
  ![v286.toNat, 256]
def k0_mult3 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32_227 : BitVec 32 := 8#32
  let v600 : BitVec 32 := Scalar.muli arg31 c8_i32_227
  let c2_i32 : BitVec 32 := 2#32
  let v601 : BitVec 32 := Scalar.addi v600 c2_i32
  let c0_i32_228 : BitVec 32 := 0#32
  let v602 : BitVec 32 := Scalar.addi v601 c0_i32_228
  let c64_i32_229 : BitVec 32 := 64#32
  let v603 : BitVec 32 := Scalar.muli v602 c64_i32_229
  v603
def k0_mult4 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32_230 : BitVec 32 := 8#32
  let v605 : BitVec 32 := Scalar.muli arg31 c8_i32_230
  let c2_i32_231 : BitVec 32 := 2#32
  let v606 : BitVec 32 := Scalar.addi v605 c2_i32_231
  let c1_i32_232 : BitVec 32 := 1#32
  let v607 : BitVec 32 := Scalar.addi v606 c1_i32_232
  let c64_i32_233 : BitVec 32 := 64#32
  let v608 : BitVec 32 := Scalar.muli v607 c64_i32_233
  v608
def k0_mult5 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32_346 : BitVec 32 := 8#32
  let v1046 : BitVec 32 := Scalar.muli arg31 c8_i32_346
  let c4_i32_347 : BitVec 32 := 4#32
  let v1047 : BitVec 32 := Scalar.addi v1046 c4_i32_347
  let c0_i32_348 : BitVec 32 := 0#32
  let v1048 : BitVec 32 := Scalar.addi v1047 c0_i32_348
  let c64_i32_349 : BitVec 32 := 64#32
  let v1049 : BitVec 32 := Scalar.muli v1048 c64_i32_349
  v1049
def k0_mult6 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32_350 : BitVec 32 := 8#32
  let v1051 : BitVec 32 := Scalar.muli arg31 c8_i32_350
  let c4_i32_351 : BitVec 32 := 4#32
  let v1052 : BitVec 32 := Scalar.addi v1051 c4_i32_351
  let c1_i32_352 : BitVec 32 := 1#32
  let v1053 : BitVec 32 := Scalar.addi v1052 c1_i32_352
  let c64_i32_353 : BitVec 32 := 64#32
  let v1054 : BitVec 32 := Scalar.muli v1053 c64_i32_353
  v1054
def k0_mult7 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32_514 : BitVec 32 := 8#32
  let v1960 : BitVec 32 := Scalar.muli arg31 c8_i32_514
  let c6_i32_515 : BitVec 32 := 6#32
  let v1961 : BitVec 32 := Scalar.addi v1960 c6_i32_515
  let c0_i32_516 : BitVec 32 := 0#32
  let v1962 : BitVec 32 := Scalar.addi v1961 c0_i32_516
  let c64_i32_517 : BitVec 32 := 64#32
  let v1963 : BitVec 32 := Scalar.muli v1962 c64_i32_517
  v1963
def k0_mult8 (i : grid0.Coords) (k0_t1 : Fin (k0_t1_loop i).trips) : BitVec 32 :=
  let c0_i32_97 : BitVec 32 := 0#32
  let c1_i32_99 : BitVec 32 := 1#32
  let arg31 : BitVec 32 := Scf.iv c0_i32_97 c1_i32_99 k0_t1
  let c8_i32_518 : BitVec 32 := 8#32
  let v1965 : BitVec 32 := Scalar.muli arg31 c8_i32_518
  let c6_i32_519 : BitVec 32 := 6#32
  let v1966 : BitVec 32 := Scalar.addi v1965 c6_i32_519
  let c1_i32_520 : BitVec 32 := 1#32
  let v1967 : BitVec 32 := Scalar.addi v1966 c1_i32_520
  let c64_i32_521 : BitVec 32 := 64#32
  let v1968 : BitVec 32 := Scalar.muli v1967 c64_i32_521
  v1968
def k0_off3 (i : grid0.Coords) (k0_t1 : Fin (k0_t1_loop i).trips) (c0_i32_133 : BitVec 32) (c0_i32_134 : BitVec 32) : Fin 2 → Nat :=
  let c0_i32_97 : BitVec 32 := 0#32
  let c1_i32_99 : BitVec 32 := 1#32
  let arg31 : BitVec 32 := Scf.iv c0_i32_97 c1_i32_99 k0_t1
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2533 : Index := Scalar.indexCast v278
  let c0_635 : Index := 0#32
  ![v2533.toNat, 0]
def k0_off4 (i : grid0.Coords) (k0_t1 : Fin (k0_t1_loop i).trips) (c0_i32_133 : BitVec 32) (c0_i32_134 : BitVec 32) : Fin 2 → Nat :=
  let c0_i32_97 : BitVec 32 := 0#32
  let c1_i32_99 : BitVec 32 := 1#32
  let arg31 : BitVec 32 := Scf.iv c0_i32_97 c1_i32_99 k0_t1
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2542 : Index := Scalar.indexCast v278
  let c128 : Index := 128#32
  ![v2542.toNat, 128]
def k0_off5 (i : grid0.Coords) (k0_t1 : Fin (k0_t1_loop i).trips) (c0_i32_133 : BitVec 32) (c0_i32_134 : BitVec 32) : Fin 2 → Nat :=
  let c0_i32_97 : BitVec 32 := 0#32
  let c1_i32_99 : BitVec 32 := 1#32
  let arg31 : BitVec 32 := Scf.iv c0_i32_97 c1_i32_99 k0_t1
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2551 : Index := Scalar.indexCast v278
  let c256_640 : Index := 256#32
  ![v2551.toNat, 256]
def k0_off6 (i : grid0.Coords) (k0_t1 : Fin (k0_t1_loop i).trips) (c0_i32_133 : BitVec 32) (c0_i32_134 : BitVec 32) : Fin 2 → Nat :=
  let c0_i32_97 : BitVec 32 := 0#32
  let c1_i32_99 : BitVec 32 := 1#32
  let arg31 : BitVec 32 := Scf.iv c0_i32_97 c1_i32_99 k0_t1
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2560 : Index := Scalar.indexCast v278
  let c384 : Index := 384#32
  ![v2560.toNat, 384]
@[reducible] def k0_t2_loop (i : grid0.Coords) : Scf.Loop 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let v218 : BitVec 32 := Scalar.addi c0_i32_97 v217
  let c1_i32_100 : BitVec 32 := 1#32
  ⟨v221, v218, c1_i32_100⟩
def k0_mult9 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32 : BitVec 32 := 8#32
  let v274 : BitVec 32 := Scalar.muli arg31 c8_i32
  let c0_i32_133 : BitVec 32 := 0#32
  let v275 : BitVec 32 := Scalar.addi v274 c0_i32_133
  let c0_i32_134 : BitVec 32 := 0#32
  let v276 : BitVec 32 := Scalar.addi v275 c0_i32_134
  let c64_i32_135 : BitVec 32 := 64#32
  let v277 : BitVec 32 := Scalar.muli v276 c64_i32_135
  v277
def k0_mult10 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32_136 : BitVec 32 := 8#32
  let v279 : BitVec 32 := Scalar.muli arg31 c8_i32_136
  let c0_i32_137 : BitVec 32 := 0#32
  let v280 : BitVec 32 := Scalar.addi v279 c0_i32_137
  let c1_i32_138 : BitVec 32 := 1#32
  let v281 : BitVec 32 := Scalar.addi v280 c1_i32_138
  let c64_i32_139 : BitVec 32 := 64#32
  let v282 : BitVec 32 := Scalar.muli v281 c64_i32_139
  v282
def k0_off7 (i : grid0.Coords) (k0_t2 : Fin (k0_t2_loop i).trips) (c0_i32_133 : BitVec 32) (c0_i32_134 : BitVec 32) : Fin 2 → Nat :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v284 : Index := Scalar.indexCast v278
  let c0_140 : Index := 0#32
  ![v284.toNat, 0]
def k0_off8 (i : grid0.Coords) (k0_t2 : Fin (k0_t2_loop i).trips) (c0_i32_133 : BitVec 32) (c0_i32_134 : BitVec 32) : Fin 2 → Nat :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v286 : Index := Scalar.indexCast v278
  let c256 : Index := 256#32
  ![v286.toNat, 256]
def k0_mult11 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32_227 : BitVec 32 := 8#32
  let v600 : BitVec 32 := Scalar.muli arg31 c8_i32_227
  let c2_i32 : BitVec 32 := 2#32
  let v601 : BitVec 32 := Scalar.addi v600 c2_i32
  let c0_i32_228 : BitVec 32 := 0#32
  let v602 : BitVec 32 := Scalar.addi v601 c0_i32_228
  let c64_i32_229 : BitVec 32 := 64#32
  let v603 : BitVec 32 := Scalar.muli v602 c64_i32_229
  v603
def k0_mult12 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32_230 : BitVec 32 := 8#32
  let v605 : BitVec 32 := Scalar.muli arg31 c8_i32_230
  let c2_i32_231 : BitVec 32 := 2#32
  let v606 : BitVec 32 := Scalar.addi v605 c2_i32_231
  let c1_i32_232 : BitVec 32 := 1#32
  let v607 : BitVec 32 := Scalar.addi v606 c1_i32_232
  let c64_i32_233 : BitVec 32 := 64#32
  let v608 : BitVec 32 := Scalar.muli v607 c64_i32_233
  v608
def k0_mult13 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32_346 : BitVec 32 := 8#32
  let v1046 : BitVec 32 := Scalar.muli arg31 c8_i32_346
  let c4_i32_347 : BitVec 32 := 4#32
  let v1047 : BitVec 32 := Scalar.addi v1046 c4_i32_347
  let c0_i32_348 : BitVec 32 := 0#32
  let v1048 : BitVec 32 := Scalar.addi v1047 c0_i32_348
  let c64_i32_349 : BitVec 32 := 64#32
  let v1049 : BitVec 32 := Scalar.muli v1048 c64_i32_349
  v1049
def k0_mult14 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32_350 : BitVec 32 := 8#32
  let v1051 : BitVec 32 := Scalar.muli arg31 c8_i32_350
  let c4_i32_351 : BitVec 32 := 4#32
  let v1052 : BitVec 32 := Scalar.addi v1051 c4_i32_351
  let c1_i32_352 : BitVec 32 := 1#32
  let v1053 : BitVec 32 := Scalar.addi v1052 c1_i32_352
  let c64_i32_353 : BitVec 32 := 64#32
  let v1054 : BitVec 32 := Scalar.muli v1053 c64_i32_353
  v1054
def k0_mult15 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32_514 : BitVec 32 := 8#32
  let v1960 : BitVec 32 := Scalar.muli arg31 c8_i32_514
  let c6_i32_515 : BitVec 32 := 6#32
  let v1961 : BitVec 32 := Scalar.addi v1960 c6_i32_515
  let c0_i32_516 : BitVec 32 := 0#32
  let v1962 : BitVec 32 := Scalar.addi v1961 c0_i32_516
  let c64_i32_517 : BitVec 32 := 64#32
  let v1963 : BitVec 32 := Scalar.muli v1962 c64_i32_517
  v1963
def k0_mult16 (i : grid0.Coords) (k0_t2 : Fin (k0_t2_loop i).trips) : BitVec 32 :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32_518 : BitVec 32 := 8#32
  let v1965 : BitVec 32 := Scalar.muli arg31 c8_i32_518
  let c6_i32_519 : BitVec 32 := 6#32
  let v1966 : BitVec 32 := Scalar.addi v1965 c6_i32_519
  let c1_i32_520 : BitVec 32 := 1#32
  let v1967 : BitVec 32 := Scalar.addi v1966 c1_i32_520
  let c64_i32_521 : BitVec 32 := 64#32
  let v1968 : BitVec 32 := Scalar.muli v1967 c64_i32_521
  v1968
def k0_off9 (i : grid0.Coords) (k0_t2 : Fin (k0_t2_loop i).trips) (c0_i32_133 : BitVec 32) (c0_i32_134 : BitVec 32) : Fin 2 → Nat :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2533 : Index := Scalar.indexCast v278
  let c0_635 : Index := 0#32
  ![v2533.toNat, 0]
def k0_off10 (i : grid0.Coords) (k0_t2 : Fin (k0_t2_loop i).trips) (c0_i32_133 : BitVec 32) (c0_i32_134 : BitVec 32) : Fin 2 → Nat :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2542 : Index := Scalar.indexCast v278
  let c128 : Index := 128#32
  ![v2542.toNat, 128]
def k0_off11 (i : grid0.Coords) (k0_t2 : Fin (k0_t2_loop i).trips) (c0_i32_133 : BitVec 32) (c0_i32_134 : BitVec 32) : Fin 2 → Nat :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2551 : Index := Scalar.indexCast v278
  let c256_640 : Index := 256#32
  ![v2551.toNat, 256]
def k0_off12 (i : grid0.Coords) (k0_t2 : Fin (k0_t2_loop i).trips) (c0_i32_133 : BitVec 32) (c0_i32_134 : BitVec 32) : Fin 2 → Nat :=
  let c0_i32_97 : BitVec 32 := 0#32
  let arg0 : BitVec 32 := BitVec.ofNat 32 (i 0).val
  let c0_i32_93 : BitVec 32 := 0#32
  let v215 : BitVec 1 := Scalar.cmpi .eq arg0 c0_i32_93
  let c0_i32_94 : BitVec 32 := 0#32
  let c1_i32_95 : BitVec 32 := 1#32
  let v216 : BitVec 32 := Scalar.select v215 c0_i32_94 c1_i32_95
  let v217 : BitVec 32 := Scalar.subi v216 c0_i32_97
  let c1_i32_98 : BitVec 32 := 1#32
  let v219 : BitVec 32 := Scalar.divsi v217 c1_i32_98
  let v220 : BitVec 32 := Scalar.muli v219 c1_i32_98
  let v221 : BitVec 32 := Scalar.addi c0_i32_97 v220
  let c1_i32_100 : BitVec 32 := 1#32
  let arg31 : BitVec 32 := Scf.iv v221 c1_i32_100 k0_t2
  let c8_i32 : BitVec 32 := 8#32
  let v274 : BitVec 32 := Scalar.muli arg31 c8_i32
  let v275 : BitVec 32 := Scalar.addi v274 c0_i32_133
  let v276 : BitVec 32 := Scalar.addi v275 c0_i32_134
  let c64_i32_135 : BitVec 32 := 64#32
  let v277 : BitVec 32 := Scalar.muli v276 c64_i32_135
  let v278 : BitVec 32 := v277
  let v2560 : Index := Scalar.indexCast v278
  let c384 : Index := 384#32
  ![v2560.toNat, 384]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S16x2048x1024 : Shape := ⟨3, ![16, 2048, 1024]⟩
abbrev S1024 : Shape := ⟨1, ![1024]⟩
abbrev S1x1024x2304 : Shape := ⟨3, ![1, 1024, 2304]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2304 : Shape := ⟨2, ![1024, 2304]⟩
abbrev S16x2048x2304 : Shape := ⟨3, ![16, 2048, 2304]⟩
abbrev S16x2048x512 : Shape := ⟨3, ![16, 2048, 512]⟩
abbrev S32768x512 : Shape := ⟨2, ![32768, 512]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x2304, .f32⟩
  | .hbm, ⟨4, _⟩ => ⟨S1x1792, .f32⟩
  | .hbm, ⟨5, _⟩ => ⟨S1x512, .f32⟩
  | .hbm, ⟨6, _⟩ => ⟨S1x64x512, .f32⟩
  | .hbm, ⟨7, _⟩ => ⟨S1x512, .f32⟩
  | .hbm, ⟨8, _⟩ => ⟨S1x64x512, .f32⟩
  | .hbm, ⟨9, _⟩ => ⟨S1x128x512, .f32⟩
  | .hbm, ⟨10, _⟩ => ⟨S1x512, .f32⟩
  | .hbm, ⟨11, _⟩ => ⟨S1x512, .f32⟩
  | .hbm, ⟨12, _⟩ => ⟨S1x8x64, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S1x1x1024, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S1024x2304, .f32⟩
  | .hbm, ⟨45, _⟩ => ⟨S16x2048x2304, .f32⟩
  | .hbm, ⟨46, _⟩ => ⟨S16x2048x512, .f32⟩
  | .hbm, ⟨47, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Proof.Row.lean ====
/-
  The layer's row functions over the extended reals: what one token's row becomes, as plain functions of rows and
  weights. A row of width `n` is a function `Fin n → EReal`, a matrix a function of its two coordinates. Both programs
  are read at an index into these.
-/
module

public import Idealize.ShloMosaic.PureOps.Ideal.Laws
public import Idealize.ShloMosaic.Lib.Pointwise

@[expose] public section

noncomputable section

namespace Cert.Row

open Idealize.ShloMosaic

/-- The mean of a row of 1024 entries: their sum over the printed constant 1024. -/
def mean (z : Fin 1024 → EReal) : EReal := Ideal.div (∑ k, z k) (Ideal.ofBits .f32 0x44800000#32)

/-- Layer normalisation of a row of 1024 entries with gain `g` and bias `b`, read at column `c`: the deviation from the
    mean, times the reciprocal root of the mean square deviation plus the printed epsilon, times the gain, plus the bias. -/
def lnorm (z g b : Fin 1024 → EReal) (c : Fin 1024) : EReal :=
  (z c - mean z) * Ideal.rsqrt (Ideal.div (∑ k, (z k - mean z) * (z k - mean z)) (Ideal.ofBits .f32 0x44800000#32)
    + Ideal.ofBits .f32 0x3727C5AC#32) * g c + b c

/-- The residual's scale, the printed constant for the fourth root of twice the depth. -/
def alpha : EReal := Ideal.ofBits .f32 0x3F9837F0#32

/-- The output projection of a token's two mixer halves: the first 512 rows of the matrix meet `ya`, the last 512 meet `yb`. -/
def mix (ya yb : Fin 512 → EReal) (wa wb : Fin 512 → Fin 1024 → EReal) (c : Fin 1024) : EReal :=
  (∑ k, ya k * wa k c) + ∑ k, yb k * wb k c

/-- The row after the mixer: the residual of the normalised input row, plus the projected mixer, normalised. -/
def mid (x mx g0 b0 g1 b1 : Fin 1024 → EReal) : Fin 1024 → EReal :=
  lnorm (fun k => alpha * lnorm x g0 b0 k + mx k) g1 b1

/-- The gated hidden row of the feed-forward: the gate times its logistic, times the up projection. -/
def hidden (h : Fin 1024 → EReal) (wg wu : Fin 1024 → Fin 2816 → EReal) (k : Fin 2816) : EReal :=
  (∑ i, h i * wg i k) * Ideal.logistic (∑ i, h i * wg i k) * ∑ i, h i * wu i k

/-- The row before the last normalisation: residual, plus feed-forward, plus the gated per-layer embedding. -/
def tail (h : Fin 1024 → EReal) (p : Fin 256 → EReal) (wg wu : Fin 1024 → Fin 2816 → EReal)
    (wd : Fin 2816 → Fin 1024 → EReal) (wpg : Fin 1024 → Fin 1024 → EReal) (wpp : Fin 256 → Fin 1024 → EReal)
    (c : Fin 1024) : EReal :=
  alpha * h c + (∑ k, hidden h wg wu k * wd k c) + Ideal.logistic (∑ k, h k * wpg k c) * ∑ k, p k * wpp k c

/-- The last `W` entries of the sequence `f` up to position `s`, nothing before position 0, summed. -/
def window (W : ℕ) (f : ℕ → EReal) (s : ℕ) : EReal := ∑ j ∈ Finset.range W, if j ≤ s then f (s - j) else 0

/-- The number of positions up to `s`, as the programs convert it from a 32-bit word. -/
def count (s : ℕ) : EReal := FloatOps.sitofp (F := Ideal) .f32 (BitVec.ofNat 32 (s + 1))

/-- One pooled channel at position `s`: the windowed mean (over as many positions as there are) minus the entry. -/
def pooled (W : ℕ) (pat : BitVec 32) (f : ℕ → EReal) (s : ℕ) : EReal :=
  Ideal.div (window W f s) (min (count s) (Ideal.ofBits .f32 pat)) - f s

/-- The four groups' pooled channels, each group through its own 128 × 128 matrix, times the scale: column `k` of the
    512. `f x` is channel `x`'s sequence, `pw g` group `g`'s matrix. -/
def pool (f : Fin 512 → ℕ → EReal) (pw : Fin 4 → Fin 128 → Fin 128 → EReal) (ps : Fin 512 → EReal) (s : ℕ)
    (k : Fin 512) : EReal :=
  (if h : k.val < 128 then
      ∑ x : Fin 128, pooled 2 0x40000000#32 (f ⟨x.val, by omega⟩) s * pw 0 x ⟨k.val, h⟩
    else if h : k.val - 128 < 128 then
      ∑ x : Fin 128, pooled 4 0x40800000#32 (f ⟨128 + x.val, by omega⟩) s * pw 1 x ⟨k.val - 128, h⟩
    else if h : k.val - 128 - 128 < 128 then
      ∑ x : Fin 128, pooled 8 0x41000000#32 (f ⟨256 + x.val, by omega⟩) s * pw 2 x ⟨k.val - 128 - 128, h⟩
    else
      ∑ x : Fin 128, pooled 16 0x41800000#32 (f ⟨384 + x.val, by omega⟩) s * pw 3 x ⟨k.val - 128 - 128 - 128, by omega⟩)
  * ps k

/-- Channel `ch` of the sequence of batch entry `b`, nothing from position 2048 on. -/
def seq (u : FVec Ideal ⟨3, ![16, 2048, 512]⟩ .f32) (b : Fin 16) (ch : Fin 512) (n : ℕ) : EReal :=
  if h : n < 2048 then u (ix3 b ⟨n, h⟩ ch) else 0

/-- The layer's second part at batch entry `b`, position `s`, column `c`, as a function of its eighteen arguments. -/
def out (x : FVec Ideal ⟨3, ![16, 2048, 1024]⟩ .f32) (ya u : FVec Ideal ⟨3, ![16, 2048, 512]⟩ .f32)
    (p : FVec Ideal ⟨4, ![1, 16, 2048, 256]⟩ .f32) (n0 b0 : FVec Ideal ⟨1, ![1024]⟩ .f32)
    (pw : FVec Ideal ⟨4, ![1, 4, 128, 128]⟩ .f32) (ps : FVec Ideal ⟨2, ![1, 512]⟩ .f32)
    (wo : FVec Ideal ⟨3, ![1, 1024, 1024]⟩ .f32) (n1 b1 : FVec Ideal ⟨2, ![1, 1024]⟩ .f32)
    (wg wu : FVec Ideal ⟨3, ![1, 1024, 2816]⟩ .f32) (wd : FVec Ideal ⟨3, ![1, 2816, 1024]⟩ .f32)
    (wpp : FVec Ideal ⟨3, ![1, 256, 1024]⟩ .f32) (wpg : FVec Ideal ⟨3, ![1, 1024, 1024]⟩ .f32)
    (n2 b2 : FVec Ideal ⟨2, ![1, 1024]⟩ .f32) (b : Fin 16) (s : Fin 2048) (c : Fin 1024) : EReal :=
  lnorm (tail (mid (fun k => x (ix3 b s k))
      (mix (fun k => ya (ix3 b s k)) (pool (seq u b) (fun g i k => pw (ix4 0 g i k)) (fun k => ps (ix2 0 k)) s.val)
        (fun k c => wo (ix3 0 ⟨k.val, by omega⟩ c)) (fun k c => wo (ix3 0 ⟨512 + k.val, by omega⟩ c)))
      (fun k => n0 (ix1 k)) (fun k => b0 (ix1 k)) (fun k => n1 (ix2 0 k)) (fun k => b1 (ix2 0 k)))
    (fun k => p (ix4 0 b s k)) (fun k c => wg (ix3 0 k c)) (fun k c => wu (ix3 0 k c)) (fun k c => wd (ix3 0 k c))
    (fun k c => wpg (ix3 0 k c)) (fun k c => wpp (ix3 0 k c))) (fun k => n2 (ix2 0 k)) (fun k => b2 (ix2 0 k)) c

/-- The layer's row depends only on the rows and matrices it is made of. -/
theorem out_congr {x x' : Fin 1024 → EReal} {ya ya' : Fin 512 → EReal} {po po' : Fin 512 → EReal} {wa wa' : Fin 512 → Fin 1024 → EReal} {wb wb' : Fin 512 → Fin 1024 → EReal} {n0 n0' : Fin 1024 → EReal} {b0 b0' : Fin 1024 → EReal} {n1 n1' : Fin 1024 → EReal} {b1 b1' : Fin 1024 → EReal} {p p' : Fin 256 → EReal} {wg wg' : Fin 1024 → Fin 2816 → EReal} {wu wu' : Fin 1024 → Fin 2816 → EReal} {wd wd' : Fin 2816 → Fin 1024 → EReal} {wpg wpg' : Fin 1024 → Fin 1024 → EReal} {wpp wpp' : Fin 256 → Fin 1024 → EReal} {n2 n2' : Fin 1024 → EReal} {b2 b2' : Fin 1024 → EReal}
    (h_x : x = x') (h_ya : ya = ya') (h_po : po = po') (h_wa : wa = wa') (h_wb : wb = wb') (h_n0 : n0 = n0') (h_b0 : b0 = b0') (h_n1 : n1 = n1') (h_b1 : b1 = b1') (h_p : p = p') (h_wg : wg = wg') (h_wu : wu = wu') (h_wd : wd = wd') (h_wpg : wpg = wpg') (h_wpp : wpp = wpp') (h_n2 : n2 = n2') (h_b2 : b2 = b2') (c : Fin 1024) :
    lnorm (tail (mid x (mix ya po wa wb) n0 b0 n1 b1) p wg wu wd wpg wpp) n2 b2 c
      = lnorm (tail (mid x' (mix ya' po' wa' wb') n0' b0' n1' b1') p' wg' wu' wd' wpg' wpp') n2' b2' c := by
  subst h_x; subst h_ya; subst h_po; subst h_wa; subst h_wb; subst h_n0; subst h_b0; subst h_n1; subst h_b1; subst h_p; subst h_wg; subst h_wu; subst h_wd; subst h_wpg; subst h_wpp; subst h_n2; subst h_b2; rfl

end Cert.Row

end
-- ==== Proof.Pool.lean ====
/-
  The kernel's windowed sums: an array of 272 rows (16 rows of the past, then 256 rows) is doubled by shifts of 1, 2, 4
  and 8 rows; row `n` then holds the sum of the last 2, 4, 8 or 16 rows. A shift wraps round, but no row below the
  sixteenth is read afterwards.
-/
module

public import proofs.«01_k».proof.Proof.Gen.KernelIdeal.Frame
public import proofs.«01_k».proof.Proof.Row
public import Idealize.ShloMosaic.Lib.Pointwise

@[expose] public section

noncomputable section

namespace Cert.KernelIdeal.Pool

open Cert.KernelIdeal Cert.KernelIdeal.Gen Idealize.ShloMosaic Idealize.ShloMosaic.Pointwise

/-- Column `c` of the 272 × 512 array as a sequence, nothing from row 272 on. -/
def col (e : FVec Ideal S272x512 .f32) (c : Fin 512) (n : ℕ) : EReal := if h : n < 272 then e (ix2 ⟨n, h⟩ c) else 0

/-- One doubling: the array plus itself shifted down by one row. -/
def dbl1 (x : FVec Ideal S272x128 .f32) : FVec Ideal S272x128 .f32 := addf x (dynamicRotate 0 1#32 none x rotates_S272x128_d0)
/-- The doubling by two rows. -/
def dbl2 (x : FVec Ideal S272x128 .f32) : FVec Ideal S272x128 .f32 := addf x (dynamicRotate 0 2#32 none x rotates_S272x128_d0)
/-- The doubling by four rows. -/
def dbl4 (x : FVec Ideal S272x128 .f32) : FVec Ideal S272x128 .f32 := addf x (dynamicRotate 0 4#32 none x rotates_S272x128_d0)
/-- The doubling by eight rows. -/
def dbl8 (x : FVec Ideal S272x128 .f32) : FVec Ideal S272x128 .f32 := addf x (dynamicRotate 0 8#32 none x rotates_S272x128_d0)

/-- Two runs of `W` consecutive terms, the second starting where the first ends, make one run of `2 W`. -/
theorem sum_double (g : ℕ → EReal) (W n : ℕ) :
    (∑ j ∈ Finset.range W, g (n - j)) + ∑ j ∈ Finset.range W, g (n - W - j) = ∑ j ∈ Finset.range (W + W), g (n - j) := by
  rw [Finset.sum_range_add]
  simp only [Nat.sub_sub]

/-- A doubling by one row, from row 1 on, sums the last two rows. -/
theorem dbl1_apply (x : FVec Ideal S272x128 .f32) (c : Fin 128) (g : ℕ → EReal)
    (hx : ∀ n (h : n < 272), x (ix2 ⟨n, h⟩ c) = g n) (n : ℕ) (h : n < 272) (hn : 1 ≤ n) :
    dbl1 x (ix2 ⟨n, h⟩ c) = ∑ j ∈ Finset.range 2, g (n - j) := by
  have e : dbl1 x (ix2 ⟨n, h⟩ c) = x (ix2 ⟨n, h⟩ c) + x (ix2 ⟨n - 1, by omega⟩ c) := by
    pointwise [dbl1]
    congr 3
    exact Fin.ext (by show (n + 272 - 1) % 272 = n - 1; omega)
  rw [e, hx, hx, Finset.sum_range_succ, Finset.sum_range_one, Nat.sub_zero]

/-- A doubling by two rows of an array that sums the last two rows, from row 3 on, sums the last four. -/
theorem dbl2_apply (x : FVec Ideal S272x128 .f32) (c : Fin 128) (g : ℕ → EReal)
    (hx : ∀ n (h : n < 272), 1 ≤ n → x (ix2 ⟨n, h⟩ c) = ∑ j ∈ Finset.range 2, g (n - j)) (n : ℕ) (h : n < 272) (hn : 3 ≤ n) :
    dbl2 x (ix2 ⟨n, h⟩ c) = ∑ j ∈ Finset.range 4, g (n - j) := by
  have e : dbl2 x (ix2 ⟨n, h⟩ c) = x (ix2 ⟨n, h⟩ c) + x (ix2 ⟨n - 2, by omega⟩ c) := by
    pointwise [dbl2]
    congr 3
    exact Fin.ext (by show (n + 272 - 2) % 272 = n - 2; omega)
  rw [e, hx _ _ (by omega), hx _ _ (by omega), sum_double]

/-- A doubling by four rows of an array that sums the last four rows, from row 7 on, sums the last eight. -/
theorem dbl4_apply (x : FVec Ideal S272x128 .f32) (c : Fin 128) (g : ℕ → EReal)
    (hx : ∀ n (h : n < 272), 3 ≤ n → x (ix2 ⟨n, h⟩ c) = ∑ j ∈ Finset.range 4, g (n - j)) (n : ℕ) (h : n < 272) (hn : 7 ≤ n) :
    dbl4 x (ix2 ⟨n, h⟩ c) = ∑ j ∈ Finset.range 8, g (n - j) := by
  have e : dbl4 x (ix2 ⟨n, h⟩ c) = x (ix2 ⟨n, h⟩ c) + x (ix2 ⟨n - 4, by omega⟩ c) := by
    pointwise [dbl4]
    congr 3
    exact Fin.ext (by show (n + 272 - 4) % 272 = n - 4; omega)
  rw [e, hx _ _ (by omega), hx _ _ (by omega), sum_double]

/-- A doubling by eight rows of an array that sums the last eight rows, from row 15 on, sums the last sixteen. -/
theorem dbl8_apply (x : FVec Ideal S272x128 .f32) (c : Fin 128) (g : ℕ → EReal)
    (hx : ∀ n (h : n < 272), 7 ≤ n → x (ix2 ⟨n, h⟩ c) = ∑ j ∈ Finset.range 8, g (n - j)) (n : ℕ) (h : n < 272) (hn : 15 ≤ n) :
    dbl8 x (ix2 ⟨n, h⟩ c) = ∑ j ∈ Finset.range 16, g (n - j) := by
  have e : dbl8 x (ix2 ⟨n, h⟩ c) = x (ix2 ⟨n, h⟩ c) + x (ix2 ⟨n - 8, by omega⟩ c) := by
    pointwise [dbl8]
    congr 3
    exact Fin.ext (by show (n + 272 - 8) % 272 = n - 8; omega)
  rw [e, hx _ _ (by omega), hx _ _ (by omega), sum_double]

/-- The first group's 128 columns of the array, at an index. -/
theorem group0 (e : FVec Ideal S272x512 .f32) (c : Fin 128) (n : ℕ) (h : n < 272) :
    extractStridedSlice S272x128 ![0, 0] e slices_S272x512_o0_0_S272x128 (ix2 ⟨n, h⟩ c) = col e ⟨c.val, by omega⟩ n := by
  pointwise []
  rw [col, dif_pos h]
/-- The second group's 128 columns of the array, at an index. -/
theorem group1 (e : FVec Ideal S272x512 .f32) (c : Fin 128) (n : ℕ) (h : n < 272) :
    extractStridedSlice S272x128 ![0, 128] e slices_S272x512_o0_128_S272x128 (ix2 ⟨n, h⟩ c) = col e ⟨128 + c.val, by omega⟩ n := by
  pointwise []
  rw [col, dif_pos h]
/-- The third group's 128 columns of the array, at an index. -/
theorem group2 (e : FVec Ideal S272x512 .f32) (c : Fin 128) (n : ℕ) (h : n < 272) :
    extractStridedSlice S272x128 ![0, 256] e slices_S272x512_o0_256_S272x128 (ix2 ⟨n, h⟩ c) = col e ⟨256 + c.val, by omega⟩ n := by
  pointwise []
  rw [col, dif_pos h]
/-- The fourth group's 128 columns of the array, at an index. -/
theorem group3 (e : FVec Ideal S272x512 .f32) (c : Fin 128) (n : ℕ) (h : n < 272) :
    extractStridedSlice S272x128 ![0, 384] e slices_S272x512_o0_384_S272x128 (ix2 ⟨n, h⟩ c) = col e ⟨384 + c.val, by omega⟩ n := by
  pointwise []
  rw [col, dif_pos h]

/-- The first group's doubling sums the last two rows. -/
theorem win2 (e : FVec Ideal S272x512 .f32) (c : Fin 128) (n : ℕ) (h : n < 272) (hn : 15 ≤ n) :
    dbl1 (extractStridedSlice S272x128 ![0, 0] e slices_S272x512_o0_0_S272x128) (ix2 ⟨n, h⟩ c)
      = ∑ j ∈ Finset.range 2, col e ⟨c.val, by omega⟩ (n - j) :=
  dbl1_apply _ c _ (group0 e c) n h (by omega)
/-- The second group's doublings sum the last four rows. -/
theorem win4 (e : FVec Ideal S272x512 .f32) (c : Fin 128) (n : ℕ) (h : n < 272) (hn : 15 ≤ n) :
    dbl2 (dbl1 (extractStridedSlice S272x128 ![0, 128] e slices_S272x512_o0_128_S272x128)) (ix2 ⟨n, h⟩ c)
      = ∑ j ∈ Finset.range 4, col e ⟨128 + c.val, by omega⟩ (n - j) :=
  dbl2_apply _ c _ (dbl1_apply _ c _ (group1 e c)) n h (by omega)
/-- The third group's doublings sum the last eight rows. -/
theorem win8 (e : FVec Ideal S272x512 .f32) (c : Fin 128) (n : ℕ) (h : n < 272) (hn : 15 ≤ n) :
    dbl4 (dbl2 (dbl1 (extractStridedSlice S272x128 ![0, 256] e slices_S272x512_o0_256_S272x128))) (ix2 ⟨n, h⟩ c)
      = ∑ j ∈ Finset.range 8, col e ⟨256 + c.val, by omega⟩ (n - j) :=
  dbl4_apply _ c _ (dbl2_apply _ c _ (dbl1_apply _ c _ (group2 e c))) n h (by omega)
/-- The fourth group's doublings sum the last sixteen rows. -/
theorem win16 (e : FVec Ideal S272x512 .f32) (c : Fin 128) (n : ℕ) (h : n < 272) (hn : 15 ≤ n) :
    dbl8 (dbl4 (dbl2 (dbl1 (extractStridedSlice S272x128 ![0, 384] e slices_S272x512_o0_384_S272x128)))) (ix2 ⟨n, h⟩ c)
      = ∑ j ∈ Finset.range 16, col e ⟨384 + c.val, by omega⟩ (n - j) :=
  dbl8_apply _ c _ (dbl4_apply _ c _ (dbl2_apply _ c _ (dbl1_apply _ c _ (group3 e c)))) n h hn

/-- One channel of a pooling group as the kernel computes it at row `r` of the 256: the windowed sum over the 272-row
    array, over the count, minus the row itself. -/
def chan (W : ℕ) (pat : BitVec 32) (cnt : FVec Ideal S256x1 .f32) (u : FVec Ideal S256x512 .f32) (e : FVec Ideal S272x512 .f32)
    (r : Fin 256) (c : Fin 512) : EReal :=
  Ideal.div (∑ j ∈ Finset.range W, col e c (16 + r.val - j)) (min (cnt (ix2 r 0)) (Ideal.ofBits .f32 pat)) - u (ix2 r c)

/-- Group 0's product with its matrix, as the kernel writes it for 256 rows. -/
def g0 (cnt : FVec Ideal S256x1 .f32) (u : FVec Ideal S256x512 .f32) (e : FVec Ideal S272x512 .f32) (w : FVec Ideal S1x128x128 .bf16) : FVec Ideal S256x128 .f32 :=
  matmul dot_S256x128_S128x128_S256x128_1_0_0_1_n_n none (truncf .bf16 (subf (divf (extractStridedSlice S256x128 ![16, 0] (dbl1 (extractStridedSlice S272x128 ![0, 0] e slices_S272x512_o0_0_S272x128)) slices_S272x128_o16_0_S256x128)
    (broadcastTo S256x128 (minimumf cnt (broadcast S256x1 (Scalar.ofBits .f32 0x40000000#32))) broadcasts_S256x1_S256x128)) (extractStridedSlice S256x128 ![0, 0] u slices_S256x512_o0_0_S256x128)) bitsLt_bf16_f32)
    (shapeCast S128x128 w shapeCasts_S1x128x128_S128x128) (constant S256x128 .f32 0x00000000#32)
/-- Group 1's product with its matrix. -/
def g1 (cnt : FVec Ideal S256x1 .f32) (u : FVec Ideal S256x512 .f32) (e : FVec Ideal S272x512 .f32) (w : FVec Ideal S1x128x128 .bf16) : FVec Ideal S256x128 .f32 :=
  matmul dot_S256x128_S128x128_S256x128_1_0_0_1_n_n none (truncf .bf16 (subf (divf (extractStridedSlice S256x128 ![16, 0] (dbl2 (dbl1 (extractStridedSlice S272x128 ![0, 128] e slices_S272x512_o0_128_S272x128))) slices_S272x128_o16_0_S256x128)
    (broadcastTo S256x128 (minimumf cnt (broadcast S256x1 (Scalar.ofBits .f32 0x40800000#32))) broadcasts_S256x1_S256x128)) (extractStridedSlice S256x128 ![0, 128] u slices_S256x512_o0_128_S256x128)) bitsLt_bf16_f32)
    (shapeCast S128x128 w shapeCasts_S1x128x128_S128x128) (constant S256x128 .f32 0x00000000#32)
/-- Group 2's product with its matrix. -/
def g2 (cnt : FVec Ideal S256x1 .f32) (u : FVec Ideal S256x512 .f32) (e : FVec Ideal S272x512 .f32) (w : FVec Ideal S1x128x128 .bf16) : FVec Ideal S256x128 .f32 :=
  matmul dot_S256x128_S128x128_S256x128_1_0_0_1_n_n none (truncf .bf16 (subf (divf (extractStridedSlice S256x128 ![16, 0] (dbl4 (dbl2 (dbl1 (extractStridedSlice S272x128 ![0, 256] e slices_S272x512_o0_256_S272x128)))) slices_S272x128_o16_0_S256x128)
    (broadcastTo S256x128 (minimumf cnt (broadcast S256x1 (Scalar.ofBits .f32 0x41000000#32))) broadcasts_S256x1_S256x128)) (extractStridedSlice S256x128 ![0, 256] u slices_S256x512_o0_256_S256x128)) bitsLt_bf16_f32)
    (shapeCast S128x128 w shapeCasts_S1x128x128_S128x128) (constant S256x128 .f32 0x00000000#32)
/-- Group 3's product with its matrix. -/
def g3 (cnt : FVec Ideal S256x1 .f32) (u : FVec Ideal S256x512 .f32) (e : FVec Ideal S272x512 .f32) (w : FVec Ideal S1x128x128 .bf16) : FVec Ideal S256x128 .f32 :=
  matmul dot_S256x128_S128x128_S256x128_1_0_0_1_n_n none (truncf .bf16 (subf (divf (extractStridedSlice S256x128 ![16, 0] (dbl8 (dbl4 (dbl2 (dbl1 (extractStridedSlice S272x128 ![0, 384] e slices_S272x512_o0_384_S272x128))))) slices_S272x128_o16_0_S256x128)
    (broadcastTo S256x128 (minimumf cnt (broadcast S256x1 (Scalar.ofBits .f32 0x41800000#32))) broadcasts_S256x1_S256x128)) (extractStridedSlice S256x128 ![0, 384] u slices_S256x512_o0_384_S256x128)) bitsLt_bf16_f32)
    (shapeCast S128x128 w shapeCasts_S1x128x128_S128x128) (constant S256x128 .f32 0x00000000#32)

/-- Group 0's product at an index is the sum over its channels. -/
theorem g0_apply (cnt : FVec Ideal S256x1 .f32) (u : FVec Ideal S256x512 .f32) (e : FVec Ideal S272x512 .f32) (w : FVec Ideal S1x128x128 .bf16) (r : Fin 256) (c : Fin 128) :
    g0 cnt u e w (ix2 r c) = ∑ x : Fin 128, chan 2 0x40000000#32 cnt u e r ⟨x.val, by omega⟩ * w (ix3 0 x c) := by
  pointwise [g0]
  refine Finset.sum_congr rfl fun x _ => ?_
  rw [win2 _ _ _ _ (by omega)]
  rfl
/-- Group 1's product at an index is the sum over its channels. -/
theorem g1_apply (cnt : FVec Ideal S256x1 .f32) (u : FVec Ideal S256x512 .f32) (e : FVec Ideal S272x512 .f32) (w : FVec Ideal S1x128x128 .bf16) (r : Fin 256) (c : Fin 128) :
    g1 cnt u e w (ix2 r c) = ∑ x : Fin 128, chan 4 0x40800000#32 cnt u e r ⟨128 + x.val, by omega⟩ * w (ix3 0 x c) := by
  pointwise [g1]
  refine Finset.sum_congr rfl fun x _ => ?_
  rw [win4 _ _ _ _ (by omega)]
  rfl
/-- Group 2's product at an index is the sum over its channels. -/
theorem g2_apply (cnt : FVec Ideal S256x1 .f32) (u : FVec Ideal S256x512 .f32) (e : FVec Ideal S272x512 .f32) (w : FVec Ideal S1x128x128 .bf16) (r : Fin 256) (c : Fin 128) :
    g2 cnt u e w (ix2 r c) = ∑ x : Fin 128, chan 8 0x41000000#32 cnt u e r ⟨256 + x.val, by omega⟩ * w (ix3 0 x c) := by
  pointwise [g2]
  refine Finset.sum_congr rfl fun x _ => ?_
  rw [win8 _ _ _ _ (by omega)]
  rfl
/-- Group 3's product at an index is the sum over its channels. -/
theorem g3_apply (cnt : FVec Ideal S256x1 .f32) (u : FVec Ideal S256x512 .f32) (e : FVec Ideal S272x512 .f32) (w : FVec Ideal S1x128x128 .bf16) (r : Fin 256) (c : Fin 128) :
    g3 cnt u e w (ix2 r c) = ∑ x : Fin 128, chan 16 0x41800000#32 cnt u e r ⟨384 + x.val, by omega⟩ * w (ix3 0 x c) := by
  pointwise [g3]
  refine Finset.sum_congr rfl fun x _ => ?_
  rw [win16 _ _ _ _ (by omega)]
  rfl

end Cert.KernelIdeal.Pool

end
-- ==== Proof.Half.lean ====
/-
  Half a block (256 tokens) of the kernel, as one function of what it loads. The kernel's text writes its two halves
  out one after the other; both are this function, which is read at an index into the row functions.
-/
module

public import proofs.«01_k».proof.Proof.Pool

@[expose] public section

noncomputable section

namespace Cert.KernelIdeal.Half

open Cert.KernelIdeal Cert.KernelIdeal.Gen Cert.KernelIdeal.Pool Idealize.ShloMosaic Idealize.ShloMosaic.Pointwise

/-- The projected mixer of 256 tokens from the four groups' products. -/
def mixArr (q0 q1 q2 q3 : FVec Ideal S256x128 .f32) (ps : FVec Ideal S1x512 .f32) (ya : FVec Ideal S256x512 .f32) (wa wb : FVec Ideal S512x1024 .bf16) : FVec Ideal S256x1024 .f32 :=
  addf (matmul dot_S256x512_S512x1024_S256x1024_1_0_0_1_n_n none (truncf .bf16 (shapeCast S256x512 ya shapeCasts_S256x512_S256x512) bitsLt_bf16_f32)
      (shapeCast S512x1024 wa shapeCasts_S512x1024_S512x1024) (constant S256x1024 .f32 0x00000000#32))
    (matmul dot_S256x512_S512x1024_S256x1024_1_0_0_1_n_n none (truncf .bf16 (mulf (concatenate S256x512 1 [⟨S256x128, q0⟩, ⟨S256x128, q1⟩, ⟨S256x128, q2⟩, ⟨S256x128, q3⟩] concatenates_S256x128_S256x128_S256x128_S256x128_S256x512_d1)
        (broadcastTo S256x512 (shapeCast S1x512 ps shapeCasts_S1x512_S1x512) broadcasts_S1x512_S256x512)) bitsLt_bf16_f32)
      (shapeCast S512x1024 wb shapeCasts_S512x1024_S512x1024) (constant S256x1024 .f32 0x00000000#32))

/-- The pooled mixer row: the four groups' products side by side, times the scale. -/
def poolRow (cnt : FVec Ideal S256x1 .f32) (u : FVec Ideal S256x512 .f32) (e : FVec Ideal S272x512 .f32) (w0 w1 w2 w3 : FVec Ideal S1x128x128 .bf16) (ps : FVec Ideal S1x512 .f32) (r : Fin 256) (k : Fin 512) : EReal :=
  (if h : k.val < 128 then g0 cnt u e w0 (ix2 r ⟨k.val, h⟩)
    else if h : k.val - 128 < 128 then g1 cnt u e w1 (ix2 r ⟨k.val - 128, h⟩)
    else if h : k.val - 128 - 128 < 128 then g2 cnt u e w2 (ix2 r ⟨k.val - 128 - 128, h⟩)
    else g3 cnt u e w3 (ix2 r ⟨k.val - 128 - 128 - 128, by omega⟩)) * ps (ix2 0 k)

/-- The projected mixer at an index. -/
theorem mixArr_apply (cnt : FVec Ideal S256x1 .f32) (u : FVec Ideal S256x512 .f32) (e : FVec Ideal S272x512 .f32) (w0 w1 w2 w3 : FVec Ideal S1x128x128 .bf16) (ps : FVec Ideal S1x512 .f32) (ya : FVec Ideal S256x512 .f32) (wa wb : FVec Ideal S512x1024 .bf16) (r : Fin 256) (c : Fin 1024) :
    mixArr (g0 cnt u e w0) (g1 cnt u e w1) (g2 cnt u e w2) (g3 cnt u e w3) ps ya wa wb (ix2 r c)
      = Row.mix (fun k => ya (ix2 r k)) (poolRow cnt u e w0 w1 w2 w3 ps r) (fun k c => wa (ix2 k c)) (fun k c => wb (ix2 k c)) c := by
  pointwise [mixArr, Row.mix, poolRow]

/-- The tokens after the mixer: residual and projected mixer, normalised. -/
def midArr (x : FVec Ideal S256x1024 .f32) (n0 b0 n1 b1 : FVec Ideal S1x1024 .f32) (mx : FVec Ideal S256x1024 .f32) : FVec Ideal S256x1024 .f32 :=
  k0_pay16 mx (k0_pay12 n0) (k0_pay13 b0) (k0_pay14 x) (k0_pay15 x) n1 b1

/-- The tokens after the mixer at an index. -/
theorem midArr_apply (x : FVec Ideal S256x1024 .f32) (n0 b0 n1 b1 : FVec Ideal S1x1024 .f32) (mx : FVec Ideal S256x1024 .f32) (r : Fin 256) (c : Fin 1024) :
    midArr x n0 b0 n1 b1 mx (ix2 r c)
      = Row.mid (fun k => x (ix2 r k)) (fun k => mx (ix2 r k)) (fun k => n0 (ix2 0 k)) (fun k => b0 (ix2 0 k))
          (fun k => n1 (ix2 0 k)) (fun k => b1 (ix2 0 k)) c := by
  pointwise [midArr, k0_pay16, k0_pay12, k0_pay13, k0_pay14, k0_pay15, Row.mid, Row.lnorm, Row.mean, Row.alpha]

/-- The result of 256 tokens from the tokens after the mixer. -/
def outArr (h : FVec Ideal S256x1024 .f32) (p : FVec Ideal S256x256 .f32) (wg wu : FVec Ideal S1024x2816 .bf16) (wd : FVec Ideal S2816x1024 .bf16) (wpg : FVec Ideal S1024x1024 .bf16) (wpp : FVec Ideal S256x1024 .bf16) (n2 b2 : FVec Ideal S1x1024 .f32) : FVec Ideal S256x1024 .f32 :=
  k0_pay35 h (k0_pay33 h wpg p wpp) (k0_pay34 h wg wu) wd n2 b2

/-- The result at an index. -/
theorem outArr_apply (h : FVec Ideal S256x1024 .f32) (p : FVec Ideal S256x256 .f32) (wg wu : FVec Ideal S1024x2816 .bf16) (wd : FVec Ideal S2816x1024 .bf16) (wpg : FVec Ideal S1024x1024 .bf16) (wpp : FVec Ideal S256x1024 .bf16) (n2 b2 : FVec Ideal S1x1024 .f32) (r : Fin 256) (c : Fin 1024) :
    outArr h p wg wu wd wpg wpp n2 b2 (ix2 r c)
      = Row.lnorm (Row.tail (fun k => h (ix2 r k)) (fun k => p (ix2 r k)) (fun k c => wg (ix2 k c)) (fun k c => wu (ix2 k c))
          (fun k c => wd (ix2 k c)) (fun k c => wpg (ix2 k c)) (fun k c => wpp (ix2 k c))) (fun k => n2 (ix2 0 k)) (fun k => b2 (ix2 0 k)) c := by
  pointwise [outArr, k0_pay35, k0_pay33, k0_pay34, k0_pay32, Row.lnorm, Row.mean, Row.tail, Row.hidden, Row.alpha]

/-- Half a block from what it loads: the count, the pooled rows with their past, and everything else. -/
def halfArr (cnt : FVec Ideal S256x1 .f32) (u : FVec Ideal S256x512 .f32) (e : FVec Ideal S272x512 .f32) (w0 w1 w2 w3 : FVec Ideal S1x128x128 .bf16) (ps : FVec Ideal S1x512 .f32) (ya : FVec Ideal S256x512 .f32) (wa wb : FVec Ideal S512x1024 .bf16) (x : FVec Ideal S256x1024 .f32) (n0 b0 n1 b1 : FVec Ideal S1x1024 .f32) (p : FVec Ideal S256x256 .f32) (wg wu : FVec Ideal S1024x2816 .bf16) (wd : FVec Ideal S2816x1024 .bf16) (wpg : FVec Ideal S1024x1024 .bf16) (wpp : FVec Ideal S256x1024 .bf16) (n2 b2 : FVec Ideal S1x1024 .f32) : FVec Ideal S256x1024 .f32 :=
  outArr (midArr x n0 b0 n1 b1 (mixArr (g0 cnt u e w0) (g1 cnt u e w1) (g2 cnt u e w2) (g3 cnt u e w3) ps ya wa wb)) p wg wu wd wpg wpp n2 b2

/-- Half a block at an index, in the row functions. -/
theorem halfArr_apply (cnt : FVec Ideal S256x1 .f32) (u : FVec Ideal S256x512 .f32) (e : FVec Ideal S272x512 .f32) (w0 w1 w2 w3 : FVec Ideal S1x128x128 .bf16) (ps : FVec Ideal S1x512 .f32) (ya : FVec Ideal S256x512 .f32) (wa wb : FVec Ideal S512x1024 .bf16) (x : FVec Ideal S256x1024 .f32) (n0 b0 n1 b1 : FVec Ideal S1x1024 .f32) (p : FVec Ideal S256x256 .f32) (wg wu : FVec Ideal S1024x2816 .bf16) (wd : FVec Ideal S2816x1024 .bf16) (wpg : FVec Ideal S1024x1024 .bf16) (wpp : FVec Ideal S256x1024 .bf16) (n2 b2 : FVec Ideal S1x1024 .f32) (r : Fin 256) (c : Fin 1024) :
    halfArr cnt u e w0 w1 w2 w3 ps ya wa wb x n0 b0 n1 b1 p wg wu wd wpg wpp n2 b2 (ix2 r c)
      = Row.lnorm (Row.tail (Row.mid (fun k => x (ix2 r k)) (Row.mix (fun k => ya (ix2 r k)) (poolRow cnt u e w0 w1 w2 w3 ps r)
            (fun k c => wa (ix2 k c)) (fun k c => wb (ix2 k c)))
          (fun k => n0 (ix2 0 k)) (fun k => b0 (ix2 0 k)) (fun k => n1 (ix2 0 k)) (fun k => b1 (ix2 0 k)))
          (fun k => p (ix2 r k)) (fun k c => wg (ix2 k c)) (fun k c => wu (ix2 k c))
          (fun k c => wd (ix2 k c)) (fun k c => wpg (ix2 k c)) (fun k c => wpp (ix2 k c))) (fun k => n2 (ix2 0 k)) (fun k => b2 (ix2 0 k)) c := by
  rw [halfArr, outArr_apply]
  simp only [midArr_apply, mixArr_apply]

/-- The first half's payload is the half-block function, the count and the past being the grid point's. -/
theorem first (i : grid0.Coords) (past : FVec Ideal S16x512 .f32) (u : FVec Ideal S256x512 .f32) (w0 w1 w2 w3 : FVec Ideal S1x128x128 .bf16) (ps : FVec Ideal S1x512 .f32) (ya : FVec Ideal S256x512 .f32) (wa wb : FVec Ideal S512x1024 .bf16) (x : FVec Ideal S256x1024 .f32) (n0 b0 n1 b1 : FVec Ideal S1x1024 .f32) (p : FVec Ideal S256x256 .f32) (wg wu : FVec Ideal S1024x2816 .bf16) (wd : FVec Ideal S2816x1024 .bf16) (wpg : FVec Ideal S1024x1024 .bf16) (wpp : FVec Ideal S256x1024 .bf16) (n2 b2 : FVec Ideal S1x1024 .f32) :
    k0_pay35 (k0_pay16 (k0_pay11 (k0_pay5 i past u w0) (k0_pay8 (k0_pay6 i past u) (k0_pay7 u) w1) (k0_pay9 (k0_pay2 i) (k0_pay3 u) (k0_pay4 i past u) w2)
          (k0_pay10 (k0_pay2 i) (k0_pay3 u) (k0_pay4 i past u)) w3 ps ya wa wb) (k0_pay12 n0) (k0_pay13 b0) (k0_pay14 x) (k0_pay15 x) n1 b1)
      (k0_pay33 (k0_pay16 (k0_pay11 (k0_pay5 i past u w0) (k0_pay8 (k0_pay6 i past u) (k0_pay7 u) w1) (k0_pay9 (k0_pay2 i) (k0_pay3 u) (k0_pay4 i past u) w2)
          (k0_pay10 (k0_pay2 i) (k0_pay3 u) (k0_pay4 i past u)) w3 ps ya wa wb) (k0_pay12 n0) (k0_pay13 b0) (k0_pay14 x) (k0_pay15 x) n1 b1) wpg p wpp)
      (k0_pay34 (k0_pay16 (k0_pay11 (k0_pay5 i past u w0) (k0_pay8 (k0_pay6 i past u) (k0_pay7 u) w1) (k0_pay9 (k0_pay2 i) (k0_pay3 u) (k0_pay4 i past u) w2)
          (k0_pay10 (k0_pay2 i) (k0_pay3 u) (k0_pay4 i past u)) w3 ps ya wa wb) (k0_pay12 n0) (k0_pay13 b0) (k0_pay14 x) (k0_pay15 x) n1 b1) wg wu) wd n2 b2
      = halfArr (k0_pay2 i) (k0_pay3 u) (k0_pay4 i past u) w0 w1 w2 w3 ps ya wa wb x n0 b0 n1 b1 p wg wu wd wpg wpp n2 b2 := rfl

/-- The second half's tokens after the mixer are the same function of its loads. -/
theorem second_mid (a : BitVec 32) (past : FVec Ideal S16x512 .f32) (u : FVec Ideal S256x512 .f32) (w0 w1 w2 w3 : FVec Ideal S1x128x128 .bf16) (ps : FVec Ideal S1x512 .f32) (ya : FVec Ideal S256x512 .f32) (wa wb : FVec Ideal S512x1024 .bf16) (x : FVec Ideal S256x1024 .f32) (n0 b0 n1 b1 : FVec Ideal S1x1024 .f32) :
    k0_pay31 (k0_pay27 (k0_pay25 ya wa) (k0_pay26 (k0_pay18 a) (k0_pay19 u) (k0_pay20 (k0_pay17 past) u) (k0_pay21 (k0_pay17 past) (k0_pay18 a) u w0) (k0_pay22 (k0_pay17 past) (k0_pay18 a) u w1)
          (k0_pay23 (k0_pay17 past) u) (k0_pay24 (k0_pay18 a)) w2 w3 ps) wb x n0 b0) (k0_pay28 n1) (k0_pay29 b1)
      (k0_pay30 (k0_pay25 ya wa) (k0_pay26 (k0_pay18 a) (k0_pay19 u) (k0_pay20 (k0_pay17 past) u) (k0_pay21 (k0_pay17 past) (k0_pay18 a) u w0) (k0_pay22 (k0_pay17 past) (k0_pay18 a) u w1)
          (k0_pay23 (k0_pay17 past) u) (k0_pay24 (k0_pay18 a)) w2 w3 ps) wb x n0 b0) (Scalar.ofBits .f32 0x44800000#32)
      = midArr x n0 b0 n1 b1 (mixArr (g0 (k0_pay18 a) (k0_pay19 u) (k0_pay20 (k0_pay17 past) u) w0) (g1 (k0_pay18 a) (k0_pay19 u) (k0_pay20 (k0_pay17 past) u) w1)
          (g2 (k0_pay18 a) (k0_pay19 u) (k0_pay20 (k0_pay17 past) u) w2) (g3 (k0_pay18 a) (k0_pay19 u) (k0_pay20 (k0_pay17 past) u) w3) ps ya wa wb) := rfl

/-- The second half's result is the same function of its tokens after the mixer. -/
theorem second_out (h : FVec Ideal S256x1024 .f32) (p : FVec Ideal S256x256 .f32) (wg wu : FVec Ideal S1024x2816 .bf16) (wd : FVec Ideal S2816x1024 .bf16) (wpg : FVec Ideal S1024x1024 .bf16) (wpp : FVec Ideal S256x1024 .bf16) (n2 b2 : FVec Ideal S1x1024 .f32) :
    k0_pay1 (k0_pay39 n2) (k0_pay40 b2) (k0_pay41 h (k0_pay36 h) (k0_pay37 h wpg) (k0_pay38 p) wpp wg wu wd)
        (k0_pay42 h (k0_pay36 h) (k0_pay37 h wpg) (k0_pay38 p) wpp wg wu wd)
      = outArr h p wg wu wd wpg wpp n2 b2 := rfl

end Cert.KernelIdeal.Half

end
-- ==== Proof.Blocks.lean ====
/-
  What each staged block holds at a grid point, in terms of the arguments. Grid point `t` of the 64 takes batch entry
  `t / 4` and positions `t % 4 * 512` to `t % 4 * 512 + 511`; the weights are whole arrays.
-/
module

public import proofs.«01_k».proof.Proof.Gen.KernelIdeal.Value
public import proofs.«01_k».proof.Proof.Half
public import Idealize.ShloMosaic.Lib.StableHlo.ReadAt
public import Idealize.ShloMosaic.Lib.Tactic.WordOmega

@[expose] public section

noncomputable section

namespace Cert.KernelIdeal.Blocks

open Idealize.ShloMosaic Idealize.ShloMosaic.Pointwise Idealize.ShloMosaic.TcCoe Cert.KernelIdeal Cert.KernelIdeal.Gen
open Idealize.ShloMosaic.Pipeline (Window)

variable (m : (ℓ : Loc nD τ sig) → Buf (Elt Ideal) ℓ) (c : Dev nD)

/-- The array of input rows the region finds, at an index. -/
theorem arr12 (b : Fin 16) (s : Fin 2048) (k : Fin 1024) : V m c main_v12 (ix2 ⟨b.val * 2048 + s.val, by omega⟩ k) = m ((c : Thread nD τ).loc main_arg0) (ix3 b s k) := by
  unfold V
  after_reads_at

/-- The array of first mixer rows the region finds, at an index. -/
theorem arr13 (b : Fin 16) (s : Fin 2048) (k : Fin 512) : V m c main_v13 (ix2 ⟨b.val * 2048 + s.val, by omega⟩ k) = m ((c : Thread nD τ).loc main_arg1) (ix3 b s k) := by
  unfold V
  after_reads_at

/-- The array of rows to be pooled the region finds, at an index. -/
theorem arr14 (b : Fin 16) (s : Fin 2048) (k : Fin 512) : V m c main_v14 (ix2 ⟨b.val * 2048 + s.val, by omega⟩ k) = m ((c : Thread nD τ).loc main_arg2) (ix3 b s k) := by
  unfold V
  after_reads_at

/-- The array of per-layer embedding rows the region finds, at an index. -/
theorem arr16 (b : Fin 16) (s : Fin 2048) (k : Fin 256) : V m c main_v16 (ix2 ⟨b.val * 2048 + s.val, by omega⟩ k) = m ((c : Thread nD τ).loc main_arg3) (ix4 0 b s k) := by
  unfold V
  after_reads_at

/-- The array of the input gain the region finds, at an index. -/
theorem arr17 (k : Fin 1024) : V m c main_v17 (ix2 0 k) = m ((c : Thread nD τ).loc main_arg4) (ix1 k) := by
  unfold V
  after_reads_at

/-- The array of the input bias the region finds, at an index. -/
theorem arr18 (k : Fin 1024) : V m c main_v18 (ix2 0 k) = m ((c : Thread nD τ).loc main_arg5) (ix1 k) := by
  unfold V
  after_reads_at

/-- The array of the pool scale the region finds, at an index. -/
theorem arr20 (k : Fin 512) : V m c main_v20 (ix2 0 k) = m ((c : Thread nD τ).loc main_arg7) (ix2 0 k) := by
  unfold V
  after_reads_at

/-- The array of the first gain the region finds, at an index. -/
theorem arr22 (k : Fin 1024) : V m c main_v22 (ix2 0 k) = m ((c : Thread nD τ).loc main_arg9) (ix2 0 k) := by
  unfold V
  after_reads_at

/-- The array of the first bias the region finds, at an index. -/
theorem arr23 (k : Fin 1024) : V m c main_v23 (ix2 0 k) = m ((c : Thread nD τ).loc main_arg10) (ix2 0 k) := by
  unfold V
  after_reads_at

/-- The array of the last gain the region finds, at an index. -/
theorem arr29 (k : Fin 1024) : V m c main_v29 (ix2 0 k) = m ((c : Thread nD τ).loc main_arg16) (ix2 0 k) := by
  unfold V
  after_reads_at

/-- The array of the last bias the region finds, at an index. -/
theorem arr30 (k : Fin 1024) : V m c main_v30 (ix2 0 k) = m ((c : Thread nD τ).loc main_arg17) (ix2 0 k) := by
  unfold V
  after_reads_at

/-- The array of the output projection the region finds, at an index. -/
theorem arr21 (i : Fin 1024) (k : Fin 1024) : V m c main_v21 (ix2 i k) = m ((c : Thread nD τ).loc main_arg8) (ix3 0 i k) := by
  unfold V
  after_reads_at

/-- The array of the gate matrix the region finds, at an index. -/
theorem arr24 (i : Fin 1024) (k : Fin 2816) : V m c main_v24 (ix2 i k) = m ((c : Thread nD τ).loc main_arg11) (ix3 0 i k) := by
  unfold V
  after_reads_at

/-- The array of the up matrix the region finds, at an index. -/
theorem arr25 (i : Fin 1024) (k : Fin 2816) : V m c main_v25 (ix2 i k) = m ((c : Thread nD τ).loc main_arg12) (ix3 0 i k) := by
  unfold V
  after_reads_at

/-- The array of the down matrix the region finds, at an index. -/
theorem arr26 (i : Fin 2816) (k : Fin 1024) : V m c main_v26 (ix2 i k) = m ((c : Thread nD τ).loc main_arg13) (ix3 0 i k) := by
  unfold V
  after_reads_at

/-- The array of the embedding's gate matrix the region finds, at an index. -/
theorem arr27 (i : Fin 1024) (k : Fin 1024) : V m c main_v27 (ix2 i k) = m ((c : Thread nD τ).loc main_arg15) (ix3 0 i k) := by
  unfold V
  after_reads_at

/-- The array of the embedding's projection the region finds, at an index. -/
theorem arr28 (i : Fin 256) (k : Fin 1024) : V m c main_v28 (ix2 i k) = m ((c : Thread nD τ).loc main_arg14) (ix3 0 i k) := by
  unfold V
  after_reads_at

/-- The array of the pooling matrices the region finds, at an index. -/
theorem arr19 (g : Fin 4) (i : Fin 128) (k : Fin 128) : V m c main_v19 (ix3 g i k) = m ((c : Thread nD τ).loc main_arg6) (ix4 0 g i k) := by
  unfold V
  after_reads_at

/-- A grid point's number is its two coordinates' number. -/
theorem coord1 : ∀ t : Fin cfg0.N, (grid0.coords t 1).val = t.val % 4 :=
  (by decide +kernel : ∀ t : Fin grid0.N, (grid0.coords t 1).val = t.val % 4)

/-- There are 64 grid points. -/
theorem lt64 (t : Fin cfg0.N) : t.val < 64 := t.isLt

/-- The block index of input rows is the grid point. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block of input rows at an index. -/
theorem blk0 (t : Fin cfg0.N) (r : Fin 512) (k : Fin 1024) :
    iblk m c 0 t (ix2 r k) = m ((c : Thread nD τ).loc main_arg0) (ix3 ⟨t.val / 4, by have := lt64 t; omega⟩ ⟨t.val % 4 * 512 + r.val, by omega⟩ k) := by
  have ht := lt64 t
  have e : (win0_0.rect t).emb (ix2 r k) = ix2 (⟨t.val / 4 * 2048 + (t.val % 4 * 512 + r.val), by omega⟩ : Fin 32768) k :=
    Shape.idx_ext₂
      ((win0_0.rect_emb_val t _ 0).trans (by
        rw [(index0 t).1]; show t.val * 512 + r.val = t.val / 4 * 2048 + (t.val % 4 * 512 + r.val); omega))
      (win0_0.rect_emb_val_of_index_zero t 1 (index0 t).2 _)
  refine (congrArg (V m c main_v12) e).trans ?_
  exact arr12 m c ⟨t.val / 4, by omega⟩ ⟨t.val % 4 * 512 + r.val, by omega⟩ k

/-- The block index of first mixer rows is the grid point. -/
theorem index1 : ∀ t : Fin cfg0.N, win0_1.index t 0 = t.val ∧ win0_1.index t 1 = 0 :=
  (by decide +kernel : ∀ t : Fin grid0.N, win0_1.index t 0 = t.val ∧ win0_1.index t 1 = 0)

/-- The block of first mixer rows at an index. -/
theorem blk1 (t : Fin cfg0.N) (r : Fin 512) (k : Fin 512) :
    iblk m c 1 t (ix2 r k) = m ((c : Thread nD τ).loc main_arg1) (ix3 ⟨t.val / 4, by have := lt64 t; omega⟩ ⟨t.val % 4 * 512 + r.val, by omega⟩ k) := by
  have ht := lt64 t
  have e : (win0_1.rect t).emb (ix2 r k) = ix2 (⟨t.val / 4 * 2048 + (t.val % 4 * 512 + r.val), by omega⟩ : Fin 32768) k :=
    Shape.idx_ext₂
      ((win0_1.rect_emb_val t _ 0).trans (by
        rw [(index1 t).1]; show t.val * 512 + r.val = t.val / 4 * 2048 + (t.val % 4 * 512 + r.val); omega))
      (win0_1.rect_emb_val_of_index_zero t 1 (index1 t).2 _)
  refine (congrArg (V m c main_v13) e).trans ?_
  exact arr13 m c ⟨t.val / 4, by omega⟩ ⟨t.val % 4 * 512 + r.val, by omega⟩ k

/-- The block index of rows to be pooled is the grid point. -/
theorem index2 : ∀ t : Fin cfg0.N, win0_2.index t 0 = t.val ∧ win0_2.index t 1 = 0 :=
  (by decide +kernel : ∀ t : Fin grid0.N, win0_2.index t 0 = t.val ∧ win0_2.index t 1 = 0)

/-- The block of rows to be pooled at an index. -/
theorem blk2 (t : Fin cfg0.N) (r : Fin 512) (k : Fin 512) :
    iblk m c 2 t (ix2 r k) = m ((c : Thread nD τ).loc main_arg2) (ix3 ⟨t.val / 4, by have := lt64 t; omega⟩ ⟨t.val % 4 * 512 + r.val, by omega⟩ k) := by
  have ht := lt64 t
  have e : (win0_2.rect t).emb (ix2 r k) = ix2 (⟨t.val / 4 * 2048 + (t.val % 4 * 512 + r.val), by omega⟩ : Fin 32768) k :=
    Shape.idx_ext₂
      ((win0_2.rect_emb_val t _ 0).trans (by
        rw [(index2 t).1]; show t.val * 512 + r.val = t.val / 4 * 2048 + (t.val % 4 * 512 + r.val); omega))
      (win0_2.rect_emb_val_of_index_zero t 1 (index2 t).2 _)
  refine (congrArg (V m c main_v14) e).trans ?_
  exact arr14 m c ⟨t.val / 4, by omega⟩ ⟨t.val % 4 * 512 + r.val, by omega⟩ k

/-- The block index of per-layer embedding rows is the grid point. -/
theorem index4 : ∀ t : Fin cfg0.N, win0_4.index t 0 = t.val ∧ win0_4.index t 1 = 0 :=
  (by decide +kernel : ∀ t : Fin grid0.N, win0_4.index t 0 = t.val ∧ win0_4.index t 1 = 0)

/-- The block of per-layer embedding rows at an index. -/
theorem blk4 (t : Fin cfg0.N) (r : Fin 512) (k : Fin 256) :
    iblk m c 4 t (ix2 r k) = m ((c : Thread nD τ).loc main_arg3) (ix4 0 ⟨t.val / 4, by have := lt64 t; omega⟩ ⟨t.val % 4 * 512 + r.val, by omega⟩ k) := by
  have ht := lt64 t
  have e : (win0_4.rect t).emb (ix2 r k) = ix2 (⟨t.val / 4 * 2048 + (t.val % 4 * 512 + r.val), by omega⟩ : Fin 32768) k :=
    Shape.idx_ext₂
      ((win0_4.rect_emb_val t _ 0).trans (by
        rw [(index4 t).1]; show t.val * 512 + r.val = t.val / 4 * 2048 + (t.val % 4 * 512 + r.val); omega))
      (win0_4.rect_emb_val_of_index_zero t 1 (index4 t).2 _)
  refine (congrArg (V m c main_v16) e).trans ?_
  exact arr16 m c ⟨t.val / 4, by omega⟩ ⟨t.val % 4 * 512 + r.val, by omega⟩ k

/-- The past rows' block index counts blocks of 16 rows and is the one just before the grid point's. -/
theorem index3 : ∀ t : Fin cfg0.N, win0_3.index t 0 = t.val * 32 - 1 ∧ win0_3.index t 1 = 0 :=
  (by decide +kernel : ∀ t : Fin grid0.N, win0_3.index t 0 = t.val * 32 - 1 ∧ win0_3.index t 1 = 0)

/-- The block of past rows at an index, where the sequence doesn't begin. -/
theorem blk3 (t : Fin cfg0.N) (h : t.val % 4 ≠ 0) (r : Fin 16) (k : Fin 512) :
    iblk m c 3 t (ix2 r k) = m ((c : Thread nD τ).loc main_arg2) (ix3 ⟨t.val / 4, by have := lt64 t; omega⟩ ⟨t.val % 4 * 512 - 16 + r.val, by omega⟩ k) := by
  have ht := lt64 t
  have e : (win0_3.rect t).emb (ix2 r k) = ix2 (⟨t.val / 4 * 2048 + (t.val % 4 * 512 - 16 + r.val), by omega⟩ : Fin 32768) k :=
    Shape.idx_ext₂
      ((win0_3.rect_emb_val t _ 0).trans (by
        rw [(index3 t).1]; show (t.val * 32 - 1) * 16 + r.val = t.val / 4 * 2048 + (t.val % 4 * 512 - 16 + r.val); omega))
      (win0_3.rect_emb_val_of_index_zero t 1 (index3 t).2 _)
  refine (congrArg (V m c main_v14) e).trans ?_
  exact arr14 m c ⟨t.val / 4, by omega⟩ ⟨t.val % 4 * 512 - 16 + r.val, by omega⟩ k

/-- The block index of the input gain is zero. -/
theorem index5 : ∀ (t : Fin cfg0.N) a, win0_5.index t a = 0 :=
  (by decide +kernel : ∀ (t : Fin grid0.N) a, win0_5.index t a = 0)

/-- The block of the input gain at an index. -/
theorem blk5 (t : Fin cfg0.N) (k : Fin 1024) : iblk m c 5 t (ix2 0 k) = m ((c : Thread nD τ).loc main_arg4) (ix1 k) := by
  have e : (win0_5.rect t).emb (ix2 0 k) = ix2 0 k := Shape.idx_ext₂ (win0_5.rect_emb_val_of_index_zero t 0 (index5 t 0) _) (win0_5.rect_emb_val_of_index_zero t 1 (index5 t 1) _)
  refine (congrArg (V m c main_v17) e).trans ?_
  exact arr17 m c k

/-- The block index of the input bias is zero. -/
theorem index6 : ∀ (t : Fin cfg0.N) a, win0_6.index t a = 0 :=
  (by decide +kernel : ∀ (t : Fin grid0.N) a, win0_6.index t a = 0)

/-- The block of the input bias at an index. -/
theorem blk6 (t : Fin cfg0.N) (k : Fin 1024) : iblk m c 6 t (ix2 0 k) = m ((c : Thread nD τ).loc main_arg5) (ix1 k) := by
  have e : (win0_6.rect t).emb (ix2 0 k) = ix2 0 k := Shape.idx_ext₂ (win0_6.rect_emb_val_of_index_zero t 0 (index6 t 0) _) (win0_6.rect_emb_val_of_index_zero t 1 (index6 t 1) _)
  refine (congrArg (V m c main_v18) e).trans ?_
  exact arr18 m c k

/-- The block index of the pool scale is zero. -/
theorem index8 : ∀ (t : Fin cfg0.N) a, win0_8.index t a = 0 :=
  (by decide +kernel : ∀ (t : Fin grid0.N) a, win0_8.index t a = 0)

/-- The block of the pool scale at an index. -/
theorem blk8 (t : Fin cfg0.N) (k : Fin 512) : iblk m c 8 t (ix2 0 k) = m ((c : Thread nD τ).loc main_arg7) (ix2 0 k) := by
  have e : (win0_8.rect t).emb (ix2 0 k) = ix2 0 k := Shape.idx_ext₂ (win0_8.rect_emb_val_of_index_zero t 0 (index8 t 0) _) (win0_8.rect_emb_val_of_index_zero t 1 (index8 t 1) _)
  refine (congrArg (V m c main_v20) e).trans ?_
  exact arr20 m c k

/-- The block index of the first gain is zero. -/
theorem index10 : ∀ (t : Fin cfg0.N) a, win0_10.index t a = 0 :=
  (by decide +kernel : ∀ (t : Fin grid0.N) a, win0_10.index t a = 0)

/-- The block of the first gain at an index. -/
theorem blk10 (t : Fin cfg0.N) (k : Fin 1024) : iblk m c 10 t (ix2 0 k) = m ((c : Thread nD τ).loc main_arg9) (ix2 0 k) := by
  have e : (win0_10.rect t).emb (ix2 0 k) = ix2 0 k := Shape.idx_ext₂ (win0_10.rect_emb_val_of_index_zero t 0 (index10 t 0) _) (win0_10.rect_emb_val_of_index_zero t 1 (index10 t 1) _)
  refine (congrArg (V m c main_v22) e).trans ?_
  exact arr22 m c k

/-- The block index of the first bias is zero. -/
theorem index11 : ∀ (t : Fin cfg0.N) a, win0_11.index t a = 0 :=
  (by decide +kernel : ∀ (t : Fin grid0.N) a, win0_11.index t a = 0)

/-- The block of the first bias at an index. -/
theorem blk11 (t : Fin cfg0.N) (k : Fin 1024) : iblk m c 11 t (ix2 0 k) = m ((c : Thread nD τ).loc main_arg10) (ix2 0 k) := by
  have e : (win0_11.rect t).emb (ix2 0 k) = ix2 0 k := Shape.idx_ext₂ (win0_11.rect_emb_val_of_index_zero t 0 (index11 t 0) _) (win0_11.rect_emb_val_of_index_zero t 1 (index11 t 1) _)
  refine (congrArg (V m c main_v23) e).trans ?_
  exact arr23 m c k

/-- The block index of the last gain is zero. -/
theorem index17 : ∀ (t : Fin cfg0.N) a, win0_17.index t a = 0 :=
  (by decide +kernel : ∀ (t : Fin grid0.N) a, win0_17.index t a = 0)

/-- The block of the last gain at an index. -/
theorem blk17 (t : Fin cfg0.N) (k : Fin 1024) : iblk m c 17 t (ix2 0 k) = m ((c : Thread nD τ).loc main_arg16) (ix2 0 k) := by
  have e : (win0_17.rect t).emb (ix2 0 k) = ix2 0 k := Shape.idx_ext₂ (win0_17.rect_emb_val_of_index_zero t 0 (index17 t 0) _) (win0_17.rect_emb_val_of_index_zero t 1 (index17 t 1) _)
  refine (congrArg (V m c main_v29) e).trans ?_
  exact arr29 m c k

/-- The block index of the last bias is zero. -/
theorem index18 : ∀ (t : Fin cfg0.N) a, win0_18.index t a = 0 :=
  (by decide +kernel : ∀ (t : Fin grid0.N) a, win0_18.index t a = 0)

/-- The block of the last bias at an index. -/
theorem blk18 (t : Fin cfg0.N) (k : Fin 1024) : iblk m c 18 t (ix2 0 k) = m ((c : Thread nD τ).loc main_arg17) (ix2 0 k) := by
  have e : (win0_18.rect t).emb (ix2 0 k) = ix2 0 k := Shape.idx_ext₂ (win0_18.rect_emb_val_of_index_zero t 0 (index18 t 0) _) (win0_18.rect_emb_val_of_index_zero t 1 (index18 t 1) _)
  refine (congrArg (V m c main_v30) e).trans ?_
  exact arr30 m c k

/-- The block index of the output projection is zero. -/
theorem index9 : ∀ (t : Fin cfg0.N) a, win0_9.index t a = 0 :=
  (by decide +kernel : ∀ (t : Fin grid0.N) a, win0_9.index t a = 0)

/-- The block of the output projection at an index. -/
theorem blk9 (t : Fin cfg0.N) (i : Fin 1024) (k : Fin 1024) : iblk m c 9 t (ix2 i k) = m ((c : Thread nD τ).loc main_arg8) (ix3 0 i k) := by
  have e : (win0_9.rect t).emb (ix2 i k) = ix2 i k := Shape.idx_ext₂ (win0_9.rect_emb_val_of_index_zero t 0 (index9 t 0) _) (win0_9.rect_emb_val_of_index_zero t 1 (index9 t 1) _)
  refine (congrArg (V m c main_v21) e).trans ?_
  exact arr21 m c i k

/-- The block index of the gate matrix is zero. -/
theorem index12 : ∀ (t : Fin cfg0.N) a, win0_12.index t a = 0 :=
  (by decide +kernel : ∀ (t : Fin grid0.N) a, win0_12.index t a = 0)

/-- The block of the gate matrix at an index. -/
theorem blk12 (t : Fin cfg0.N) (i : Fin 1024) (k : Fin 2816) : iblk m c 12 t (ix2 i k) = m ((c : Thread nD τ).loc main_arg11) (ix3 0 i k) := by
  have e : (win0_12.rect t).emb (ix2 i k) = ix2 i k := Shape.idx_ext₂ (win0_12.rect_emb_val_of_index_zero t 0 (index12 t 0) _) (win0_12.rect_emb_val_of_index_zero t 1 (index12 t 1) _)
  refine (congrArg (V m c main_v24) e).trans ?_
  exact arr24 m c i k

/-- The block index of the up matrix is zero. -/
theorem index13 : ∀ (t : Fin cfg0.N) a, win0_13.index t a = 0 :=
  (by decide +kernel : ∀ (t : Fin grid0.N) a, win0_13.index t a = 0)

/-- The block of the up matrix at an index. -/
theorem blk13 (t : Fin cfg0.N) (i : Fin 1024) (k : Fin 2816) : iblk m c 13 t (ix2 i k) = m ((c : Thread nD τ).loc main_arg12) (ix3 0 i k) := by
  have e : (win0_13.rect t).emb (ix2 i k) = ix2 i k := Shape.idx_ext₂ (win0_13.rect_emb_val_of_index_zero t 0 (index13 t 0) _) (win0_13.rect_emb_val_of_index_zero t 1 (index13 t 1) _)
  refine (congrArg (V m c main_v25) e).trans ?_
  exact arr25 m c i k

/-- The block index of the down matrix is zero. -/
theorem index14 : ∀ (t : Fin cfg0.N) a, win0_14.index t a = 0 :=
  (by decide +kernel : ∀ (t : Fin grid0.N) a, win0_14.index t a = 0)

/-- The block of the down matrix at an index. -/
theorem blk14 (t : Fin cfg0.N) (i : Fin 2816) (k : Fin 1024) : iblk m c 14 t (ix2 i k) = m ((c : Thread nD τ).loc main_arg13) (ix3 0 i k) := by
  have e : (win0_14.rect t).emb (ix2 i k) = ix2 i k := Shape.idx_ext₂ (win0_14.rect_emb_val_of_index_zero t 0 (index14 t 0) _) (win0_14.rect_emb_val_of_index_zero t 1 (index14 t 1) _)
  refine (congrArg (V m c main_v26) e).trans ?_
  exact arr26 m c i k

/-- The block index of the embedding's gate matrix is zero. -/
theorem index15 : ∀ (t : Fin cfg0.N) a, win0_15.index t a = 0 :=
  (by decide +kernel : ∀ (t : Fin grid0.N) a, win0_15.index t a = 0)

/-- The block of the embedding's gate matrix at an index. -/
theorem blk15 (t : Fin cfg0.N) (i : Fin 1024) (k : Fin 1024) : iblk m c 15 t (ix2 i k) = m ((c : Thread nD τ).loc main_arg15) (ix3 0 i k) := by
  have e : (win0_15.rect t).emb (ix2 i k) = ix2 i k := Shape.idx_ext₂ (win0_15.rect_emb_val_of_index_zero t 0 (index15 t 0) _) (win0_15.rect_emb_val_of_index_zero t 1 (index15 t 1) _)
  refine (congrArg (V m c main_v27) e).trans ?_
  exact arr27 m c i k

/-- The block index of the embedding's projection is zero. -/
theorem index16 : ∀ (t : Fin cfg0.N) a, win0_16.index t a = 0 :=
  (by decide +kernel : ∀ (t : Fin grid0.N) a, win0_16.index t a = 0)

/-- The block of the embedding's projection at an index. -/
theorem blk16 (t : Fin cfg0.N) (i : Fin 256) (k : Fin 1024) : iblk m c 16 t (ix2 i k) = m ((c : Thread nD τ).loc main_arg14) (ix3 0 i k) := by
  have e : (win0_16.rect t).emb (ix2 i k) = ix2 i k := Shape.idx_ext₂ (win0_16.rect_emb_val_of_index_zero t 0 (index16 t 0) _) (win0_16.rect_emb_val_of_index_zero t 1 (index16 t 1) _)
  refine (congrArg (V m c main_v28) e).trans ?_
  exact arr28 m c i k

/-- The block index of the pooling matrices is zero. -/
theorem index7 : ∀ (t : Fin cfg0.N) a, win0_7.index t a = 0 :=
  (by decide +kernel : ∀ (t : Fin grid0.N) a, win0_7.index t a = 0)

/-- The block of the pooling matrices at an index. -/
theorem blk7 (t : Fin cfg0.N) (g : Fin 4) (i : Fin 128) (k : Fin 128) : iblk m c 7 t (ix3 g i k) = m ((c : Thread nD τ).loc main_arg6) (ix4 0 g i k) := by
  have e : (win0_7.rect t).emb (ix3 g i k) = ix3 g i k := funext fun a => Fin.ext (win0_7.rect_emb_val_of_index_zero t a (index7 t a) _)
  refine (congrArg (V m c main_v19) e).trans ?_
  exact arr19 m c g i k

end Cert.KernelIdeal.Blocks

end
-- ==== Proof.Array.lean ====
/-
  The kernel's result array: every block holds the row functions of the arguments, and the blocks tile the array.
-/
module

public import proofs.«01_k».proof.Proof.Blocks

@[expose] public section

noncomputable section

namespace Cert.KernelIdeal.Blocks

open Idealize.ShloMosaic Idealize.ShloMosaic.Pointwise Idealize.ShloMosaic.TcCoe Cert.KernelIdeal Cert.KernelIdeal.Gen
open Cert.KernelIdeal.Pool Cert.KernelIdeal.Half
open Idealize.ShloMosaic.Pipeline (Window)

variable (m : (ℓ : Loc nD τ sig) → Buf (Elt Ideal) ℓ) (c : Dev nD)

/-! ## Loads of parts of a block -/

/-- A load of the first 256 rows of 512, at an index. -/
theorem ld1 (x : Vec Ideal S512x512 .f32) (r : Fin 256) (k : Fin 512) : View.ld (Val := Elt Ideal) (e' := .f32) x r0_1 (ix2 r k) = x (ix2 ⟨r.val, by omega⟩ k) :=
  congrArg x (Shape.idx_ext₂ (by show 0 + 1 * r.val = r.val; omega) (by show 0 + 1 * k.val = k.val; omega))

/-- A load of the last 256 rows of 512, at an index. -/
theorem ld12 (x : Vec Ideal S512x512 .f32) (r : Fin 256) (k : Fin 512) : View.ld (Val := Elt Ideal) (e' := .f32) x r0_12 (ix2 r k) = x (ix2 ⟨256 + r.val, by omega⟩ k) :=
  congrArg x (Shape.idx_ext₂ (by show 256 + 1 * r.val = 256 + r.val; omega) (by show 0 + 1 * k.val = k.val; omega))

/-- A load of the 16 rows before the last 256, at an index. -/
theorem ld11 (x : Vec Ideal S512x512 .f32) (r : Fin 16) (k : Fin 512) : View.ld (Val := Elt Ideal) (e' := .f32) x r0_11 (ix2 r k) = x (ix2 ⟨240 + r.val, by omega⟩ k) :=
  congrArg x (Shape.idx_ext₂ (by show 240 + 1 * r.val = 240 + r.val; omega) (by show 0 + 1 * k.val = k.val; omega))

/-- A load of the first 256 input rows, at an index. -/
theorem ld9 (x : Vec Ideal S512x1024 .f32) (r : Fin 256) (k : Fin 1024) : View.ld (Val := Elt Ideal) (e' := .f32) x r0_9 (ix2 r k) = x (ix2 ⟨r.val, by omega⟩ k) :=
  congrArg x (Shape.idx_ext₂ (by show 0 + 1 * r.val = r.val; omega) (by show 0 + 1 * k.val = k.val; omega))

/-- A load of the last 256 input rows, at an index. -/
theorem ld13 (x : Vec Ideal S512x1024 .f32) (r : Fin 256) (k : Fin 1024) : View.ld (Val := Elt Ideal) (e' := .f32) x r0_13 (ix2 r k) = x (ix2 ⟨256 + r.val, by omega⟩ k) :=
  congrArg x (Shape.idx_ext₂ (by show 256 + 1 * r.val = 256 + r.val; omega) (by show 0 + 1 * k.val = k.val; omega))

/-- A load of the first 256 embedding rows, at an index. -/
theorem ld15 (x : Vec Ideal S512x256 .f32) (r : Fin 256) (k : Fin 256) : View.ld (Val := Elt Ideal) (e' := .f32) x r0_15 (ix2 r k) = x (ix2 ⟨r.val, by omega⟩ k) :=
  congrArg x (Shape.idx_ext₂ (by show 0 + 1 * r.val = r.val; omega) (by show 0 + 1 * k.val = k.val; omega))

/-- A load of the last 256 embedding rows, at an index. -/
theorem ld19 (x : Vec Ideal S512x256 .f32) (r : Fin 256) (k : Fin 256) : View.ld (Val := Elt Ideal) (e' := .f32) x r0_19 (ix2 r k) = x (ix2 ⟨256 + r.val, by omega⟩ k) :=
  congrArg x (Shape.idx_ext₂ (by show 256 + 1 * r.val = 256 + r.val; omega) (by show 0 + 1 * k.val = k.val; omega))

/-- A load of the first 512 rows of the output projection, at an index. -/
theorem ld7 (x : Vec Ideal S1024x1024 .bf16) (r : Fin 512) (k : Fin 1024) : View.ld (Val := Elt Ideal) (e' := .bf16) x r0_7 (ix2 r k) = x (ix2 ⟨r.val, by omega⟩ k) :=
  congrArg x (Shape.idx_ext₂ (by show 0 + 1 * r.val = r.val; omega) (by show 0 + 1 * k.val = k.val; omega))

/-- A load of the last 512 rows of the output projection, at an index. -/
theorem ld8 (x : Vec Ideal S1024x1024 .bf16) (r : Fin 512) (k : Fin 1024) : View.ld (Val := Elt Ideal) (e' := .bf16) x r0_8 (ix2 r k) = x (ix2 ⟨512 + r.val, by omega⟩ k) :=
  congrArg x (Shape.idx_ext₂ (by show 512 + 1 * r.val = 512 + r.val; omega) (by show 0 + 1 * k.val = k.val; omega))

/-- A load of the past rows, at an index. -/
theorem ld0 (x : Vec Ideal S16x512 .f32) (r : Fin 16) (k : Fin 512) : View.ld (Val := Elt Ideal) (e' := .f32) x r0_0 (ix2 r k) = x (ix2 r k) :=
  congrArg x (Shape.idx_ext₂ (by show 0 + 1 * r.val = r.val; omega) (by show 0 + 1 * k.val = k.val; omega))

/-- A load of a whole square matrix, at an index. -/
theorem ld14 (x : Vec Ideal S1024x1024 .bf16) (r : Fin 1024) (k : Fin 1024) : View.ld (Val := Elt Ideal) (e' := .bf16) x r0_14 (ix2 r k) = x (ix2 r k) :=
  congrArg x (Shape.idx_ext₂ (by show 0 + 1 * r.val = r.val; omega) (by show 0 + 1 * k.val = k.val; omega))

/-- A load of the whole embedding projection, at an index. -/
theorem ld16 (x : Vec Ideal S256x1024 .bf16) (r : Fin 256) (k : Fin 1024) : View.ld (Val := Elt Ideal) (e' := .bf16) x r0_16 (ix2 r k) = x (ix2 r k) :=
  congrArg x (Shape.idx_ext₂ (by show 0 + 1 * r.val = r.val; omega) (by show 0 + 1 * k.val = k.val; omega))

/-- A load of a whole wide matrix, at an index. -/
theorem ld17 (x : Vec Ideal S1024x2816 .bf16) (r : Fin 1024) (k : Fin 2816) : View.ld (Val := Elt Ideal) (e' := .bf16) x r0_17 (ix2 r k) = x (ix2 r k) :=
  congrArg x (Shape.idx_ext₂ (by show 0 + 1 * r.val = r.val; omega) (by show 0 + 1 * k.val = k.val; omega))

/-- A load of the whole down matrix, at an index. -/
theorem ld18 (x : Vec Ideal S2816x1024 .bf16) (r : Fin 2816) (k : Fin 1024) : View.ld (Val := Elt Ideal) (e' := .bf16) x r0_18 (ix2 r k) = x (ix2 r k) :=
  congrArg x (Shape.idx_ext₂ (by show 0 + 1 * r.val = r.val; omega) (by show 0 + 1 * k.val = k.val; omega))

/-- A load of the pool scale, at an index. -/
theorem ld6 (x : Vec Ideal S1x512 .f32) (k : Fin 512) : View.ld (Val := Elt Ideal) (e' := .f32) x r0_6 (ix2 0 k) = x (ix2 0 k) :=
  congrArg x (Shape.idx_ext₂ rfl (by show 0 + 1 * k.val = k.val; omega))

/-- A load of a gain or bias, at an index. -/
theorem ld10 (x : Vec Ideal S1x1024 .f32) (k : Fin 1024) : View.ld (Val := Elt Ideal) (e' := .f32) x r0_10 (ix2 0 k) = x (ix2 0 k) :=
  congrArg x (Shape.idx_ext₂ rfl (by show 0 + 1 * k.val = k.val; omega))

/-- A load of pooling matrix 0, at an index. -/
theorem ld2 (x : Vec Ideal S4x128x128 .bf16) (i k : Fin 128) : View.ld (Val := Elt Ideal) (e' := .bf16) x r0_2 (ix3 0 i k) = x (ix3 0 i k) :=
  congrArg x (funext fun a => Fin.ext (by
    match a with
    | ⟨0, _⟩ => rfl
    | ⟨1, _⟩ => show 0 + 1 * i.val = i.val; omega
    | ⟨2, _⟩ => show 0 + 1 * k.val = k.val; omega))

/-- A load of pooling matrix 1, at an index. -/
theorem ld3 (x : Vec Ideal S4x128x128 .bf16) (i k : Fin 128) : View.ld (Val := Elt Ideal) (e' := .bf16) x r0_3 (ix3 0 i k) = x (ix3 1 i k) :=
  congrArg x (funext fun a => Fin.ext (by
    match a with
    | ⟨0, _⟩ => rfl
    | ⟨1, _⟩ => show 0 + 1 * i.val = i.val; omega
    | ⟨2, _⟩ => show 0 + 1 * k.val = k.val; omega))

/-- A load of pooling matrix 2, at an index. -/
theorem ld4 (x : Vec Ideal S4x128x128 .bf16) (i k : Fin 128) : View.ld (Val := Elt Ideal) (e' := .bf16) x r0_4 (ix3 0 i k) = x (ix3 2 i k) :=
  congrArg x (funext fun a => Fin.ext (by
    match a with
    | ⟨0, _⟩ => rfl
    | ⟨1, _⟩ => show 0 + 1 * i.val = i.val; omega
    | ⟨2, _⟩ => show 0 + 1 * k.val = k.val; omega))

/-- A load of pooling matrix 3, at an index. -/
theorem ld5 (x : Vec Ideal S4x128x128 .bf16) (i k : Fin 128) : View.ld (Val := Elt Ideal) (e' := .bf16) x r0_5 (ix3 0 i k) = x (ix3 3 i k) :=
  congrArg x (funext fun a => Fin.ext (by
    match a with
    | ⟨0, _⟩ => rfl
    | ⟨1, _⟩ => show 0 + 1 * i.val = i.val; omega
    | ⟨2, _⟩ => show 0 + 1 * k.val = k.val; omega))

/-! ## The pooled row -/

/-- The kernel's channel is the row function's, where its count, its row and its past are the sequence's. -/
theorem chan_eq (W : ℕ) (pat : BitVec 32) (cnt : FVec Ideal S256x1 .f32) (u : FVec Ideal S256x512 .f32) (e : FVec Ideal S272x512 .f32)
    (r : Fin 256) (ch : Fin 512) (f : ℕ → EReal) (s : ℕ) (hW : W ≤ 16) (hc : cnt (ix2 r 0) = Row.count s) (hu : u (ix2 r ch) = f s)
    (he : ∀ j < 16, col e ch (16 + r.val - j) = if j ≤ s then f (s - j) else 0) :
    chan W pat cnt u e r ch = Row.pooled W pat f s := by
  rw [chan, Row.pooled, Row.window, hc, hu, Finset.sum_congr rfl fun j hj => he j (by have := Finset.mem_range.mp hj; omega)]

/-- The kernel's pooled row is the row function's. -/
theorem poolRow_eq (cnt : FVec Ideal S256x1 .f32) (u : FVec Ideal S256x512 .f32) (e : FVec Ideal S272x512 .f32)
    (w0 w1 w2 w3 : FVec Ideal S1x128x128 .bf16) (ps : FVec Ideal S1x512 .f32) (r : Fin 256) (f : Fin 512 → ℕ → EReal)
    (pw : Fin 4 → Fin 128 → Fin 128 → EReal) (psf : Fin 512 → EReal) (s : ℕ)
    (hc : cnt (ix2 r 0) = Row.count s) (hu : ∀ ch, u (ix2 r ch) = f ch s)
    (he : ∀ ch, ∀ j < 16, col e ch (16 + r.val - j) = if j ≤ s then f ch (s - j) else 0)
    (h0 : ∀ i k, w0 (ix3 0 i k) = pw 0 i k) (h1 : ∀ i k, w1 (ix3 0 i k) = pw 1 i k)
    (h2 : ∀ i k, w2 (ix3 0 i k) = pw 2 i k) (h3 : ∀ i k, w3 (ix3 0 i k) = pw 3 i k) (hps : ∀ k, ps (ix2 0 k) = psf k) :
    poolRow cnt u e w0 w1 w2 w3 ps r = Row.pool f pw psf s := by
  funext k
  simp only [poolRow, Row.pool, g0_apply, g1_apply, g2_apply, g3_apply, h0, h1, h2, h3, hps,
    chan_eq _ _ cnt u e r _ (f _) s (by decide : 2 ≤ 16) hc (hu _) (he _),
    chan_eq _ _ cnt u e r _ (f _) s (by decide : 4 ≤ 16) hc (hu _) (he _),
    chan_eq _ _ cnt u e r _ (f _) s (by decide : 8 ≤ 16) hc (hu _) (he _),
    chan_eq _ _ cnt u e r _ (f _) s (by decide : 16 ≤ 16) hc (hu _) (he _)]

/-! ## A grid point's block -/

/-- The layer's second part of device `c`'s arguments, at batch entry `b`, position `s`, column `k`. -/
def G (b : Fin 16) (s : Fin 2048) (k : Fin 1024) : EReal :=
  Row.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) b s k

/-- The layer's row at equal positions and columns is the same. -/
theorem G_congr (b : Fin 16) {s s' : Fin 2048} {k k' : Fin 1024} (hs : s.val = s'.val) (hk : k.val = k'.val) :
    G m c b s k = G m c b s' k' := by
  rw [Fin.ext hs, Fin.ext hk]

/-- The count of the first half's row. -/
theorem count_first (t : Fin cfg0.N) (r : Fin 256) : k0_pay2 (F := Ideal) (grid0.coords t) (ix2 r 0) = Row.count (t.val % 4 * 512 + r.val) := by
  have ht := lt64 t
  have e1 := coord1 t
  pointwise [k0_pay2, Row.count]
  congr 1
  rw [e1]
  simp only [Scalar.addi, Scalar.muli, IntOp.addi, IntOp.muli]
  word_omega

/-- The count of the second half's row. -/
theorem count_second (t : Fin cfg0.N) (r : Fin 256) :
    k0_pay18 (F := Ideal) (BitVec.ofNat 32 (grid0.coords t 1).val) (ix2 r 0) = Row.count (t.val % 4 * 512 + 256 + r.val) := by
  have ht := lt64 t
  have e1 := coord1 t
  pointwise [k0_pay18, Row.count]
  congr 1
  rw [e1]
  simp only [Scalar.addi, Scalar.muli, IntOp.addi, IntOp.muli]
  word_omega

/-- The sequence at a position the block holds. -/
theorem seq_eq (b : Fin 16) (ch : Fin 512) (n : ℕ) (h : n < 2048) :
    Row.seq (m ((c : Thread nD τ).loc main_arg2)) b ch n = (m ((c : Thread nD τ).loc main_arg2)) (ix3 b ⟨n, h⟩ ch) := by
  rw [Row.seq, dif_pos h]

/-- A nonzero grid coordinate compares unequal to zero. -/
theorem cmp_ne : ∀ n < 4, n ≠ 0 → Scalar.cmpi .eq (BitVec.ofNat 32 n) 0#32 = 0#1 := by decide

/-- The first half's rows with their past are the sequence. -/
theorem past_first (t : Fin cfg0.N) (r : Fin 256) (ch : Fin 512) (j : ℕ) (hj : j < 16) :
    col (k0_pay4 (grid0.coords t) (View.ld (iblk m c 3 t) r0_0) (View.ld (iblk m c 2 t) r0_1)) ch (16 + r.val - j)
      = if j ≤ t.val % 4 * 512 + r.val then Row.seq (m ((c : Thread nD τ).loc main_arg2)) ⟨t.val / 4, by have := lt64 t; omega⟩ ch (t.val % 4 * 512 + r.val - j) else 0 := by
  have ht := lt64 t
  have e1 := coord1 t
  rw [col, dif_pos (by omega)]
  pointwise [k0_pay4, k0_pay3]
  rw [e1]
  by_cases h : 16 + r.val - j < 16
  · rw [dif_pos h]
    by_cases h0 : t.val % 4 = 0
    · rw [if_neg (by omega), h0]
      rfl
    · rw [cmp_ne _ (by omega) h0, if_pos (by omega), seq_eq _ _ _ _ _ (by omega)]
      refine (blk3 m c t h0 _ _).trans (congrArg _ ?_)
      exact congrArg (ix3 _ · _) (Fin.ext (by show t.val % 4 * 512 - 16 + (16 + r.val - j) = t.val % 4 * 512 + r.val - j; omega))
  · rw [dif_neg h]
    refine (blk2 m c t ⟨16 + r.val - j - 16, by omega⟩ _).trans ?_
    rw [if_pos (by omega), seq_eq _ _ _ _ _ (by omega)]
    refine congrArg _ ?_
    exact congrArg (ix3 _ · _) (Fin.ext (by show t.val % 4 * 512 + (16 + r.val - j - 16) = t.val % 4 * 512 + r.val - j; omega))

/-- The second half's rows with their past are the sequence. -/
theorem past_second (t : Fin cfg0.N) (r : Fin 256) (ch : Fin 512) (j : ℕ) (hj : j < 16) :
    col (k0_pay20 (k0_pay17 (View.ld (iblk m c 2 t) r0_11)) (View.ld (iblk m c 2 t) r0_12)) ch (16 + r.val - j)
      = if j ≤ t.val % 4 * 512 + 256 + r.val then Row.seq (m ((c : Thread nD τ).loc main_arg2)) ⟨t.val / 4, by have := lt64 t; omega⟩ ch (t.val % 4 * 512 + 256 + r.val - j) else 0 := by
  have ht := lt64 t
  rw [col, dif_pos (by omega), if_pos (by omega), seq_eq _ _ _ _ _ (by omega)]
  pointwise [k0_pay20, k0_pay19, k0_pay17]
  by_cases h : 16 + r.val - j < 16
  · rw [dif_pos h]
    refine (blk2 m c t ⟨240 + (16 + r.val - j), by omega⟩ _).trans (congrArg _ ?_)
    exact congrArg (ix3 _ · _) (Fin.ext (by show t.val % 4 * 512 + (240 + (16 + r.val - j)) = t.val % 4 * 512 + 256 + r.val - j; omega))
  · rw [dif_neg h]
    refine (blk2 m c t ⟨256 + (16 + r.val - j - 16), by omega⟩ _).trans (congrArg _ ?_)
    exact congrArg (ix3 _ · _) (Fin.ext (by show t.val % 4 * 512 + (256 + (16 + r.val - j - 16)) = t.val % 4 * 512 + 256 + r.val - j; omega))

/-- The first half of a grid point's block is the layer's rows. -/
theorem half_first (t : Fin cfg0.N) (r : Fin 256) (k : Fin 1024) :
    halfArr (k0_pay2 (grid0.coords t)) (k0_pay3 (View.ld (iblk m c 2 t) r0_1)) (k0_pay4 (grid0.coords t) (View.ld (iblk m c 3 t) r0_0) (View.ld (iblk m c 2 t) r0_1)) (View.ld (iblk m c 7 t) r0_2) (View.ld (iblk m c 7 t) r0_3) (View.ld (iblk m c 7 t) r0_4) (View.ld (iblk m c 7 t) r0_5) (View.ld (iblk m c 8 t) r0_6) (View.ld (iblk m c 1 t) r0_1) (View.ld (iblk m c 9 t) r0_7) (View.ld (iblk m c 9 t) r0_8) (View.ld (iblk m c 0 t) r0_9) (View.ld (iblk m c 5 t) r0_10) (View.ld (iblk m c 6 t) r0_10) (View.ld (iblk m c 10 t) r0_10) (View.ld (iblk m c 11 t) r0_10) (View.ld (iblk m c 4 t) r0_15) (View.ld (iblk m c 12 t) r0_17) (View.ld (iblk m c 13 t) r0_17) (View.ld (iblk m c 14 t) r0_18) (View.ld (iblk m c 15 t) r0_14) (View.ld (iblk m c 16 t) r0_16) (View.ld (iblk m c 17 t) r0_10) (View.ld (iblk m c 18 t) r0_10) (ix2 r k)
      = G m c ⟨t.val / 4, by have := lt64 t; omega⟩ ⟨t.val % 4 * 512 + r.val, by omega⟩ k := by
  have ht := lt64 t
  have hp := poolRow_eq _ (k0_pay3 (View.ld (iblk m c 2 t) r0_1)) _ (View.ld (iblk m c 7 t) r0_2) (View.ld (iblk m c 7 t) r0_3) (View.ld (iblk m c 7 t) r0_4) (View.ld (iblk m c 7 t) r0_5) (View.ld (iblk m c 8 t) r0_6) r (Row.seq (m ((c : Thread nD τ).loc main_arg2)) ⟨t.val / 4, by omega⟩)
    (fun g i k => (m ((c : Thread nD τ).loc main_arg6)) (ix4 0 g i k)) (fun k => (m ((c : Thread nD τ).loc main_arg7)) (ix2 0 k)) (t.val % 4 * 512 + r.val)
    (count_first t r) (fun ch => by
      rw [seq_eq _ _ _ _ _ (by omega)]
      pointwise [k0_pay3, k0_pay19]
      exact blk2 m c t ⟨r.val, by omega⟩ ch) (past_first m c t r)
    (fun i k => (ld2 _ i k).trans (blk7 m c t 0 i k)) (fun i k => (ld3 _ i k).trans (blk7 m c t 1 i k))
    (fun i k => (ld4 _ i k).trans (blk7 m c t 2 i k)) (fun i k => (ld5 _ i k).trans (blk7 m c t 3 i k))
    (fun k => (ld6 _ k).trans (blk8 m c t k))
  rw [halfArr_apply, hp, G, Row.out]
  exact Row.out_congr (funext fun k => (ld9 _ r k).trans (blk0 m c t ⟨r.val, by omega⟩ k)) (funext fun k => (ld1 _ r k).trans (blk1 m c t ⟨r.val, by omega⟩ k)) rfl
    (funext fun i => funext fun k => (ld7 _ i k).trans (blk9 m c t ⟨i.val, by omega⟩ k)) (funext fun i => funext fun k => (ld8 _ i k).trans (blk9 m c t ⟨512 + i.val, by omega⟩ k))
    (funext fun k => (ld10 _ k).trans (blk5 m c t k)) (funext fun k => (ld10 _ k).trans (blk6 m c t k)) (funext fun k => (ld10 _ k).trans (blk10 m c t k)) (funext fun k => (ld10 _ k).trans (blk11 m c t k)) (funext fun k => (ld15 _ r k).trans (blk4 m c t ⟨r.val, by omega⟩ k))
    (funext fun i => funext fun k => (ld17 _ i k).trans (blk12 m c t i k)) (funext fun i => funext fun k => (ld17 _ i k).trans (blk13 m c t i k)) (funext fun i => funext fun k => (ld18 _ i k).trans (blk14 m c t i k)) (funext fun i => funext fun k => (ld14 _ i k).trans (blk15 m c t i k)) (funext fun i => funext fun k => (ld16 _ i k).trans (blk16 m c t i k)) (funext fun k => (ld10 _ k).trans (blk17 m c t k)) (funext fun k => (ld10 _ k).trans (blk18 m c t k)) k

/-- The second half of a grid point's block is the layer's rows. -/
theorem half_second (t : Fin cfg0.N) (r : Fin 256) (k : Fin 1024) :
    halfArr (k0_pay18 (BitVec.ofNat 32 (grid0.coords t 1).val)) (k0_pay19 (View.ld (iblk m c 2 t) r0_12)) (k0_pay20 (k0_pay17 (View.ld (iblk m c 2 t) r0_11)) (View.ld (iblk m c 2 t) r0_12)) (View.ld (iblk m c 7 t) r0_2) (View.ld (iblk m c 7 t) r0_3) (View.ld (iblk m c 7 t) r0_4) (View.ld (iblk m c 7 t) r0_5) (View.ld (iblk m c 8 t) r0_6) (View.ld (iblk m c 1 t) r0_12) (View.ld (iblk m c 9 t) r0_7) (View.ld (iblk m c 9 t) r0_8) (View.ld (iblk m c 0 t) r0_13) (View.ld (iblk m c 5 t) r0_10) (View.ld (iblk m c 6 t) r0_10) (View.ld (iblk m c 10 t) r0_10) (View.ld (iblk m c 11 t) r0_10) (View.ld (iblk m c 4 t) r0_19) (View.ld (iblk m c 12 t) r0_17) (View.ld (iblk m c 13 t) r0_17) (View.ld (iblk m c 14 t) r0_18) (View.ld (iblk m c 15 t) r0_14) (View.ld (iblk m c 16 t) r0_16) (View.ld (iblk m c 17 t) r0_10) (View.ld (iblk m c 18 t) r0_10) (ix2 r k)
      = G m c ⟨t.val / 4, by have := lt64 t; omega⟩ ⟨t.val % 4 * 512 + 256 + r.val, by omega⟩ k := by
  have ht := lt64 t
  have hp := poolRow_eq _ (k0_pay19 (View.ld (iblk m c 2 t) r0_12)) _ (View.ld (iblk m c 7 t) r0_2) (View.ld (iblk m c 7 t) r0_3) (View.ld (iblk m c 7 t) r0_4) (View.ld (iblk m c 7 t) r0_5) (View.ld (iblk m c 8 t) r0_6) r (Row.seq (m ((c : Thread nD τ).loc main_arg2)) ⟨t.val / 4, by omega⟩)
    (fun g i k => (m ((c : Thread nD τ).loc main_arg6)) (ix4 0 g i k)) (fun k => (m ((c : Thread nD τ).loc main_arg7)) (ix2 0 k)) (t.val % 4 * 512 + 256 + r.val)
    (count_second t r) (fun ch => by
      rw [seq_eq _ _ _ _ _ (by omega)]
      pointwise [k0_pay3, k0_pay19]
      exact (blk2 m c t ⟨256 + r.val, by omega⟩ ch).trans (congrArg _ (congrArg (ix3 _ · _) (Fin.ext (Nat.add_assoc _ _ _).symm)))) (past_second m c t r)
    (fun i k => (ld2 _ i k).trans (blk7 m c t 0 i k)) (fun i k => (ld3 _ i k).trans (blk7 m c t 1 i k))
    (fun i k => (ld4 _ i k).trans (blk7 m c t 2 i k)) (fun i k => (ld5 _ i k).trans (blk7 m c t 3 i k))
    (fun k => (ld6 _ k).trans (blk8 m c t k))
  rw [halfArr_apply, hp, G, Row.out]
  exact Row.out_congr (funext fun k => (ld13 _ r k).trans ((blk0 m c t ⟨256 + r.val, by omega⟩ k).trans (congrArg _ (congrArg (ix3 _ · _) (Fin.ext (Nat.add_assoc _ _ _).symm))))) (funext fun k => (ld12 _ r k).trans ((blk1 m c t ⟨256 + r.val, by omega⟩ k).trans (congrArg _ (congrArg (ix3 _ · _) (Fin.ext (Nat.add_assoc _ _ _).symm))))) rfl
    (funext fun i => funext fun k => (ld7 _ i k).trans (blk9 m c t ⟨i.val, by omega⟩ k)) (funext fun i => funext fun k => (ld8 _ i k).trans (blk9 m c t ⟨512 + i.val, by omega⟩ k))
    (funext fun k => (ld10 _ k).trans (blk5 m c t k)) (funext fun k => (ld10 _ k).trans (blk6 m c t k)) (funext fun k => (ld10 _ k).trans (blk10 m c t k)) (funext fun k => (ld10 _ k).trans (blk11 m c t k)) (funext fun k => (ld19 _ r k).trans ((blk4 m c t ⟨256 + r.val, by omega⟩ k).trans (congrArg _ (congrArg (ix4 _ _ · _) (Fin.ext (Nat.add_assoc _ _ _).symm)))))
    (funext fun i => funext fun k => (ld17 _ i k).trans (blk12 m c t i k)) (funext fun i => funext fun k => (ld17 _ i k).trans (blk13 m c t i k)) (funext fun i => funext fun k => (ld18 _ i k).trans (blk14 m c t i k)) (funext fun i => funext fun k => (ld14 _ i k).trans (blk15 m c t i k)) (funext fun i => funext fun k => (ld16 _ i k).trans (blk16 m c t i k)) (funext fun k => (ld10 _ k).trans (blk17 m c t k)) (funext fun k => (ld10 _ k).trans (blk18 m c t k)) k

/-- A grid point's block of results, at an index, is the layer's row. -/
theorem out_apply (t : Fin cfg0.N) (y : S512x1024.Idx) :
    out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = G m c ⟨t.val / 4, by have := lt64 t; omega⟩ ⟨t.val % 4 * 512 + (y 0).val, by have : (y 0).val < 512 := (y 0).isLt; omega⟩ (y 1) := by
  unfold_out out0_19
  refine View.canon_apply_of_pieces (Val := Elt Ideal) (e := .f32) (fun y : S512x1024.Idx => (G m c ⟨t.val / 4, by have := lt64 t; omega⟩
    ⟨t.val % 4 * 512 + (y 0).val, by have : (y 0).val < 512 := (y 0).isLt; omega⟩ (y 1))) _ ?_ y (cover0_19 _ _ y)
  intro p hp x
  rcases List.mem_cons.mp hp with rfl | hp
  · have hx : x = ix2 (n0 := 256) (n1 := 1024) (x 0) (x 1) := Shape.idx_ext₂ rfl rfl
    rw [hx]
    refine (half_second m c t (x 0) (x 1)).trans (G_congr m c _ ?_ ?_)
    · show t.val % 4 * 512 + 256 + (x 0).val = t.val % 4 * 512 + (256 + 1 * (x 0).val)
      omega
    · show (x 1).val = 0 + 1 * (x 1).val
      omega
  · rcases List.mem_singleton.mp hp with rfl
    have hx : x = ix2 (n0 := 256) (n1 := 1024) (x 0) (x 1) := Shape.idx_ext₂ rfl rfl
    rw [hx]
    refine (half_first m c t (x 0) (x 1)).trans (G_congr m c _ ?_ ?_)
    · show t.val % 4 * 512 + (x 0).val = t.val % 4 * 512 + (0 + 1 * (x 0).val)
      omega
    · show (x 1).val = 0 + 1 * (x 1).val
      omega

/-! ## The whole array -/

/-- The result array: row `R` of the 32768 is batch entry `R / 2048`, position `R % 2048`. -/
def result : Buf (Elt Ideal) ((c : Thread nD τ).loc main_v31) := fun i : S32768x1024.Idx =>
  G m c ⟨(i 0).val / 2048, by have : (i 0).val < 32768 := (i 0).isLt; omega⟩ ⟨(i 0).val % 2048, by omega⟩ (i 1)

/-- The block index of the result is the grid point. -/
theorem index19 : ∀ t : Fin cfg0.N, win0_19.index t 0 = t.val ∧ win0_19.index t 1 = 0 :=
  (by decide +kernel : ∀ t : Fin grid0.N, win0_19.index t 0 = t.val ∧ win0_19.index t 1 = 0)

/-- What a grid point writes back is its block of the result array. -/
theorem flushed_eq (t : Fin cfg0.N) :
    (dats m 0 c).flushed 19 t = ((cfg0.win 19).blk t).view.read (Elt Ideal) (result m c) := by
  rw [Value.flushed19]
  funext y
  have ht := lt64 t
  have e0 : ((win0_19.rect t).emb y 0 : ℕ) = t.val * 512 + (y 0).val := by
    rw [win0_19.rect_emb_val t y 0, (index19 t).1]; rfl
  have e1 : ((win0_19.rect t).emb y 1 : ℕ) = (y 1).val := win0_19.rect_emb_val_of_index_zero t 1 (index19 t).2 y
  have hy : (y 0).val < 512 := (y 0).isLt
  refine (out_apply m c t y).trans ?_
  show _ = result m c ((win0_19.rect t).emb y)
  unfold result
  have hb : (⟨t.val / 4, by omega⟩ : Fin 16) = ⟨((win0_19.rect t).emb y 0 : ℕ) / 2048, by omega⟩ := Fin.ext (by
    show t.val / 4 = _ / 2048; rw [e0]; omega)
  rw [hb]
  refine G_congr m c _ ?_ e1.symm
  show t.val % 4 * 512 + (y 0).val = _ % 2048
  rw [e0]; omega

/-- Every index of the result array lies in some grid point's block. -/
theorem cover (i : S32768x1024.Idx) :
    ∃ t : Fin cfg0.N, (cfg0.win 19).flush t = true ∧ i ∈ ((cfg0.win 19).blk t).view.set := by
  have h0 : (i 0).val < 32768 := (i 0).isLt
  have h1 : (i 1).val < 1024 := (i 1).isLt
  have ht : (i 0).val / 512 < cfg0.N := by show _ < 64; omega
  refine ⟨⟨(i 0).val / 512, ht⟩, flush0_19 _, ?_⟩
  have e := index19 ⟨(i 0).val / 512, ht⟩
  show i ∈ ((View.whole main_v31).slice (win0_19.rect ⟨(i 0).val / 512, ht⟩)).set
  rw [View.set_slice_whole, Rect.mem_set_unit]
  intro a
  match a with
  | ⟨0, _⟩ =>
    show win0_19.index ⟨(i 0).val / 512, ht⟩ 0 * 512 ≤ (i 0).val ∧ (i 0).val < win0_19.index ⟨(i 0).val / 512, ht⟩ 0 * 512 + 512
    rw [e.1]
    show (i 0).val / 512 * 512 ≤ (i 0).val ∧ (i 0).val < (i 0).val / 512 * 512 + 512
    omega
  | ⟨1, _⟩ =>
    show win0_19.index ⟨(i 0).val / 512, ht⟩ 1 * 1024 ≤ (i 1).val ∧ (i 1).val < win0_19.index ⟨(i 0).val / 512, ht⟩ 1 * 1024 + 1024
    rw [e.2]; omega

/-- The result array after the run. -/
theorem final : (dats m 0 c).arrAt 19 cfg0.N = result m c :=
  (dats m 0 c).arrAt_eq_of_cover 19 (result m c) (fun t _ => flushed_eq m c t) cover

end Cert.KernelIdeal.Blocks

end
-- ==== Proof.RefSum.lean ====
/-
  The running sum along the sequence, as the reference takes it, and the window sums its differences are.
-/
module

public import proofs.«01_k».proof.Proof.Gen.ReferenceIdeal.Read
public import proofs.«01_k».proof.Proof.Row
public import Idealize.ShloMosaic.Lib.IdealHost
public import Idealize.ShloMosaic.Lib.StableHlo.ReadAt
public import Idealize.ShloMosaic.Lib.Tactic.WordOmega

@[expose] public section

noncomputable section

namespace Cert.ReferenceIdeal.Rows

open Cert Idealize.ShloMosaic Idealize.ShloMosaic.Pointwise Cert.ReferenceIdeal Cert.ReferenceIdeal.Gen
  Cert.ReferenceIdeal.Read

/-- A left fold that adds one term per step is its start plus the sum of the terms. -/
theorem foldl_add {n : ℕ} (g : Fin n → EReal) (v : EReal) :
    (List.finRange n).foldl (fun r k => r + g k) v = v + ∑ k, g k := by
  rw [← List.sum_ofFn, List.ofFn_eq_map]
  generalize List.finRange n = l
  induction l generalizing v with
  | nil => simp
  | cons a l ih => rw [List.foldl_cons, ih, List.map_cons, List.sum_cons, add_assoc]

/-- The positions of a window that is long on the sequence axis alone are counted by that axis. -/
def along : (⟨4, ![1, 2048, 1, 1]⟩ : Shape).Idx ≃ Fin 2048 where
  toFun w := w 1
  invFun n := ix4 0 n 0 0
  left_inv w := by
    funext a
    match a with
    | ⟨0, _⟩ => exact Fin.ext (by have := (w 0).isLt; change (w 0).val < 1 at this; show 0 = (w 0).val; omega)
    | ⟨1, _⟩ => rfl
    | ⟨2, _⟩ => exact Fin.ext (by have := (w 2).isLt; change (w 2).val < 1 at this; show 0 = (w 2).val; omega)
    | ⟨3, _⟩ => exact Fin.ext (by have := (w 3).isLt; change (w 3).val < 1 at this; show 0 = (w 3).val; omega)
  right_inv n := rfl

variable (u : FVec Ideal ⟨3, ![16, 2048, 512]⟩ .f32)

/-- The running sum at position `s` of channel `ch`: the entries up to and including `s`, summed. -/
theorem running (b : Fin 16) (s : Fin 2048) (g : Fin 4) (k : Fin 128) (ch : Fin 512) (hch : ch.val = g.val * 128 + k.val) :
    val_main_v27 (F := Ideal) u (ix4 b s g k) = ∑ n ∈ Finset.range (s.val + 1), Row.seq u b ch n := by
  have hs := s.isLt
  have hx : ∀ n : Fin 2048, val_main_v26 (F := Ideal) u (ix4 b n g k) = u (ix3 b n ch) := fun n => by
    pointwise [val_main_v26]
    exact congrArg (fun z => u (ix3 b n z)) (Fin.ext (by show g.val * 128 + k.val = ch.val; omega))
  have hz : val_main_call0_call0_v0 (F := Ideal) (Shape.Idx.first h_S_) = 0 := by
    pointwise [val_main_call0_call0_v0, val_main_call0_call0_cst]
  unfold val_main_v27 Host.reduceWindowAdd
  rw [Ideal.hostReduceWindowAdd_def, hz]
  unfold Ideal.hostReduceWindowAdd
  unfold Host.reduceWindow
  refine (foldl_add _ _).trans ?_
  rw [zero_add]
  refine (Fintype.sum_equiv ((⟨4, ![1, 2048, 1, 1]⟩ : Shape).rowMajor.symm.trans along) _
    (fun n : Fin 2048 => (fun q : ℕ => if 2047 ≤ s.val + q then Row.seq u b ch (s.val + q - 2047) else 0) n.val) ?_).trans ?_
  · intro n
    obtain ⟨w, rfl⟩ : ∃ w, n = (⟨4, ![1, 2048, 1, 1]⟩ : Shape).rowMajor w := ⟨_, (Equiv.apply_symm_apply _ n).symm⟩
    obtain ⟨q, rfl⟩ : ∃ q, w = along.symm q := ⟨_, (Equiv.symm_apply_apply along w).symm⟩
    simp only [Equiv.trans_apply, Equiv.symm_apply_apply, Equiv.apply_symm_apply]
    have hq := q.isLt
    by_cases h : 2047 ≤ s.val + q.val
    · rw [if_pos h]
      have hin : ∀ a : Fin 4, (![0, 2047, 0, 0] : Fin 4 → ℕ) a ≤ (ix4 b s g k a).val * (![1, 1, 1, 1] : Fin 4 → ℕ) a + (along.symm q a).val
          ∧ (ix4 b s g k a).val * (![1, 1, 1, 1] : Fin 4 → ℕ) a + (along.symm q a).val - (![0, 2047, 0, 0] : Fin 4 → ℕ) a
            < S16x2048x4x128.size a := by
        intro a
        match a with
        | ⟨0, _⟩ => exact ⟨Nat.zero_le _, by show b.val * 1 + 0 - 0 < 16; omega⟩
        | ⟨1, _⟩ => exact ⟨by show 2047 ≤ s.val * 1 + q.val; omega, by show s.val * 1 + q.val - 2047 < 2048; omega⟩
        | ⟨2, _⟩ => exact ⟨Nat.zero_le _, by show g.val * 1 + 0 - 0 < 4; omega⟩
        | ⟨3, _⟩ => exact ⟨Nat.zero_le _, by show k.val * 1 + 0 - 0 < 128; omega⟩
      refine (dif_pos hin).trans ?_
      unfold Row.seq
      rw [dif_pos (show s.val + q.val - 2047 < 2048 by omega), ← hx]
      refine congrArg (val_main_v26 (F := Ideal) u) (funext fun a => Fin.ext ?_)
      match a with
      | ⟨0, _⟩ => show b.val * 1 + 0 - 0 = b.val; omega
      | ⟨1, _⟩ => show s.val * 1 + q.val - 2047 = s.val + q.val - 2047; omega
      | ⟨2, _⟩ => show g.val * 1 + 0 - 0 = g.val; omega
      | ⟨3, _⟩ => show k.val * 1 + 0 - 0 = k.val; omega
    · rw [if_neg h]
      refine dif_neg fun hin => h ?_
      have h1 := (hin 1).1
      change 2047 ≤ s.val * 1 + q.val at h1
      omega
  · rw [Fin.sum_univ_eq_sum_range (fun q : ℕ => if 2047 ≤ s.val + q then Row.seq u b ch (s.val + q - 2047) else 0) 2048]
    obtain ⟨t, ht⟩ : ∃ t, s.val = t := ⟨_, rfl⟩
    rw [ht] at hs ⊢
    rw [show 2048 = (2047 - t) + (t + 1) by omega, Finset.sum_range_add, Finset.sum_eq_zero fun q hq => if_neg (by
      have := Finset.mem_range.mp hq; omega), zero_add]
    refine Finset.sum_congr rfl fun q hq => ?_
    rw [if_pos (by omega), show t + (2047 - t + q) - 2047 = q by omega]

/-- A running sum is the running sum `W` positions earlier plus the last `W` entries; with fewer than `W` entries there
    are none earlier. -/
theorem running_split (W : ℕ) (f : ℕ → EReal) (s : ℕ) :
    ∑ n ∈ Finset.range (s + 1), f n = (if W ≤ s then ∑ n ∈ Finset.range (s - W + 1), f n else 0) + Row.window W f s := by
  unfold Row.window
  by_cases h : W ≤ s
  · rw [if_pos h, show s + 1 = (s - W + 1) + W by omega, Finset.sum_range_add, ← Finset.sum_range_reflect (fun j => f (s - W + 1 + j)) W]
    refine congrArg _ (Finset.sum_congr rfl fun j hj => ?_)
    have hj := Finset.mem_range.mp hj
    rw [if_pos (by omega), show s - W + 1 + (W - 1 - j) = s - j by omega]
  · obtain ⟨e, he⟩ : ∃ e, W = (s + 1) + e := ⟨W - s - 1, by omega⟩
    rw [if_neg h, zero_add, he, Finset.sum_range_add _ (s + 1) e, Finset.sum_eq_zero (s := Finset.range e)
      fun j _ => if_neg (by omega), add_zero, ← Finset.sum_range_reflect f (s + 1)]
    refine Finset.sum_congr rfl fun j hj => ?_
    have hj := Finset.mem_range.mp hj
    rw [if_pos (by omega), show s + 1 - 1 - j = s - j by omega]

/-- A sum of finite numbers is finite. -/
theorem sum_finite (f : ℕ → EReal) (hf : ∀ n, ∃ r : ℝ, f n = r) (N : ℕ) : ∃ r : ℝ, ∑ n ∈ Finset.range N, f n = r := by
  induction N with
  | zero => exact ⟨0, by simp⟩
  | succ N ih =>
    obtain ⟨r, hr⟩ := ih
    obtain ⟨t, ht⟩ := hf N
    exact ⟨r + t, by rw [Finset.sum_range_succ, hr, ht, EReal.coe_add]⟩

/-- The difference of two running sums of finite numbers, `W` positions apart, is the window's sum. -/
theorem diff (W : ℕ) (f : ℕ → EReal) (hf : ∀ n, ∃ r : ℝ, f n = r) (s : ℕ) :
    (∑ n ∈ Finset.range (s + 1), f n) - (if W ≤ s then ∑ n ∈ Finset.range (s - W + 1), f n else 0) = Row.window W f s := by
  rw [running_split W f s]
  obtain ⟨r, hr⟩ : ∃ r : ℝ, (if W ≤ s then ∑ n ∈ Finset.range (s - W + 1), f n else 0) = r := by
    split
    · exact sum_finite f hf _
    · exact ⟨0, rfl⟩
  rw [hr]
  exact EReal.add_sub_cancel_left

end Cert.ReferenceIdeal.Rows

end
-- ==== Proof.RefPool.lean ====
/-
  The reference's pooled channels: each group's windowed mean minus the entry, the four groups side by side, each through
  its own matrix.
-/
module

public import proofs.«01_k».proof.Proof.RefSum

@[expose] public section

noncomputable section

namespace Cert.ReferenceIdeal.Rows

open Cert Idealize.ShloMosaic Idealize.ShloMosaic.Pointwise Cert.ReferenceIdeal Cert.ReferenceIdeal.Gen
  Cert.ReferenceIdeal.Read

variable (u : FVec Ideal ⟨3, ![16, 2048, 512]⟩ .f32)

/-- The reference's count of positions up to `s`. -/
theorem pos (s : Fin 2048) : val_main_v31 (F := Ideal) (ix1 s) = Row.count s.val := by
  have e : IntOp.addi 1#32 (BitVec.ofNat 32 s.val) = BitVec.ofNat 32 (s.val + 1) := by
    simp only [IntOp.addi]
    rw [Nat.add_comm, BitVec.ofNat_add]
  pointwise [val_main_v31, val_main_v30, val_main_v29, val_main_v28, val_main_c]
  rw [e]
  rfl

/-- A channel's sequence at a position inside it. -/
theorem seq_at (b : Fin 16) (s : Fin 2048) (ch : Fin 512) : Row.seq u b ch s.val = u (ix3 b s ch) := dif_pos s.isLt

/-- Every entry of a channel's sequence is finite where the array's entries are. -/
theorem seq_finite (hu : ∀ i, ∃ r : ℝ, u i = r) (b : Fin 16) (ch : Fin 512) (n : ℕ) : ∃ r : ℝ, Row.seq u b ch n = r := by
  unfold Row.seq
  split
  · exact hu _
  · exact ⟨0, rfl⟩

/-- A pooled channel as the reference states it: the difference of the running sum and the running sum `W` positions
    earlier (zero before the start), over the smaller of the count and the window's length, minus the entry. -/
theorem pooled_eq (hu : ∀ i, ∃ r : ℝ, u i = r) (W : ℕ) (pat : BitVec 32) (b : Fin 16) (s : Fin 2048) (g : Fin 4) (k : Fin 128)
    (ch ch' : Fin 512) (hch : ch.val = g.val * 128 + k.val) (hch' : ch' = ch) (z : EReal) (hz : z = 0) :
    Ideal.div (val_main_v27 (F := Ideal) u (ix4 b s g k) -
        if h : W ≤ s.val ∧ s.val - W < 2048 then val_main_v27 (F := Ideal) u (ix4 b ⟨s.val - W, h.2⟩ g k) else z)
      (min (val_main_v31 (F := Ideal) (ix1 s)) (Ideal.ofBits .f32 pat)) - u (ix3 b s ch')
    = Row.pooled W pat (Row.seq u b ch) s.val := by
  have hs := s.isLt
  have e : (if h : W ≤ s.val ∧ s.val - W < 2048 then val_main_v27 (F := Ideal) u (ix4 b ⟨s.val - W, h.2⟩ g k) else z)
      = if W ≤ s.val then ∑ n ∈ Finset.range (s.val - W + 1), Row.seq u b ch n else 0 := by
    by_cases h : W ≤ s.val
    · rw [dif_pos ⟨h, by omega⟩, if_pos h, running u b _ g k ch hch]
    · rw [dif_neg fun h' => h h'.1, if_neg h, hz]
  rw [e, running u b s g k ch hch, diff W _ (seq_finite u hu b ch), pos, hch']
  unfold Row.pooled
  rw [seq_at]

/-- Indices with equal coordinates are equal. -/
theorem ix4_congr {a b c d : ℕ} {i i' : Fin a} {j j' : Fin b} {k k' : Fin c} {l l' : Fin d} (hi : i = i') (hj : j = j')
    (hk : k = k') (hl : l = l') : ix4 i j k l = ix4 i' j' k' l' := by
  subst hi; subst hj; subst hk; subst hl; rfl

/-- The padding the reference shifts in is zero. -/
theorem zero_word : FloatOps.sitofp (F := Ideal) FTy.f32 (0#32) = (0 : EReal) := by
  simp [FloatOps.sitofp]

/-- Group 0 of the reference's pooled channels: windows of 2. -/
theorem group0 (hu : ∀ i, ∃ r : ℝ, u i = r) (b : Fin 16) (s : Fin 2048) (k : Fin 128) :
    val_main_v44 (F := Ideal) u (ix3 b s k) = Row.pooled 2 0x40000000#32 (Row.seq u b ⟨k.val, by omega⟩) s.val := by
  pointwise [val_main_v44, val_main_v43, val_main_v42, val_main_v41, val_main_v40, val_main_v39, val_main_v38, val_main_v37, val_main_v36, val_main_v35, val_main_v34, val_main_v33, val_main_v32, val_main_v26, val_main_cst_5, val_main_call1_v0, val_main_c_4]
  exact pooled_eq u hu 2 0x40000000#32 b s 0 k ⟨k.val, by omega⟩ _ (by first | rfl | (show _ = _; simp; try omega)) (by first | rfl | (apply Fin.ext; show _ = _; simp; try omega)) _ zero_word

/-- Group 1 of the reference's pooled channels: windows of 4. -/
theorem group1 (hu : ∀ i, ∃ r : ℝ, u i = r) (b : Fin 16) (s : Fin 2048) (k : Fin 128) :
    val_main_v57 (F := Ideal) u (ix3 b s k) = Row.pooled 4 0x40800000#32 (Row.seq u b ⟨128 + k.val, by omega⟩) s.val := by
  pointwise [val_main_v57, val_main_v56, val_main_v55, val_main_v54, val_main_v53, val_main_v52, val_main_v51, val_main_v50, val_main_v49, val_main_v48, val_main_v47, val_main_v46, val_main_v45, val_main_v26, val_main_cst_7, val_main_call2_v0, val_main_c_6]
  exact pooled_eq u hu 4 0x40800000#32 b s 1 k ⟨128 + k.val, by omega⟩ _ (by first | rfl | (show _ = _; simp; try omega)) (by first | rfl | (apply Fin.ext; show _ = _; simp; try omega)) _ zero_word

/-- Group 2 of the reference's pooled channels: windows of 8. -/
theorem group2 (hu : ∀ i, ∃ r : ℝ, u i = r) (b : Fin 16) (s : Fin 2048) (k : Fin 128) :
    val_main_v70 (F := Ideal) u (ix3 b s k) = Row.pooled 8 0x41000000#32 (Row.seq u b ⟨256 + k.val, by omega⟩) s.val := by
  pointwise [val_main_v70, val_main_v69, val_main_v68, val_main_v67, val_main_v66, val_main_v65, val_main_v64, val_main_v63, val_main_v62, val_main_v61, val_main_v60, val_main_v59, val_main_v58, val_main_v26, val_main_cst_9, val_main_call3_v0, val_main_c_8]
  exact pooled_eq u hu 8 0x41000000#32 b s 2 k ⟨256 + k.val, by omega⟩ _ (by first | rfl | (show _ = _; simp; try omega)) (by first | rfl | (apply Fin.ext; show _ = _; simp; try omega)) _ zero_word

/-- Group 3 of the reference's pooled channels: windows of 16. -/
theorem group3 (hu : ∀ i, ∃ r : ℝ, u i = r) (b : Fin 16) (s : Fin 2048) (k : Fin 128) :
    val_main_v83 (F := Ideal) u (ix3 b s k) = Row.pooled 16 0x41800000#32 (Row.seq u b ⟨384 + k.val, by omega⟩) s.val := by
  pointwise [val_main_v83, val_main_v82, val_main_v81, val_main_v80, val_main_v79, val_main_v78, val_main_v77, val_main_v76, val_main_v75, val_main_v74, val_main_v73, val_main_v72, val_main_v71, val_main_v26, val_main_cst_11, val_main_call4_v0, val_main_c_10]
  exact pooled_eq u hu 16 0x41800000#32 b s 3 k ⟨384 + k.val, by omega⟩ _ (by first | rfl | (show _ = _; simp; try omega)) (by first | rfl | (apply Fin.ext; show _ = _; simp; try omega)) _ zero_word

/-- The reference's pooled half of the mixer at column `k`. -/
theorem pool_eq (pw : FVec Ideal ⟨4, ![1, 4, 128, 128]⟩ .f32) (ps : FVec Ideal ⟨2, ![1, 512]⟩ .f32)
    (hu : ∀ i, ∃ r : ℝ, u i = r) (b : Fin 16) (s : Fin 2048) (k : Fin 512) :
    val_main_v94 (F := Ideal) u pw ps (ix3 b s k)
      = Row.pool (Row.seq u b) (fun g i k => pw (ix4 0 g i k)) (fun k => ps (ix2 0 k)) s.val k := by
  have hk := k.isLt
  pointwise [val_main_v94, val_main_v93, val_main_v92, val_main_v91, val_main_v90, val_main_v89, val_main_v88, val_main_v87, val_main_v86, val_main_v85, val_main_v84, val_main_v24, val_main_v25]
  unfold Row.pool
  refine congrArg (· * ps (ix2 0 k)) ?_
  simp only [group0 u hu, group1 u hu, group2 u hu, group3 u hu]
  by_cases h0 : k.val < 128
  · rw [dif_pos h0]
    refine Finset.sum_congr rfl fun x _ => ?_
    rw [dif_pos (by omega), mul_comm]
    exact congrArg (_ * ·) (congrArg pw (ix4_congr rfl (Fin.ext (by show k.val / 128 = 0; omega)) rfl (Fin.ext (by show k.val % 128 = k.val; omega))))
  by_cases h1 : k.val - 128 < 128
  · rw [dif_neg h0, dif_pos h1]
    refine Finset.sum_congr rfl fun x _ => ?_
    rw [dif_neg (by omega), dif_pos (by omega), mul_comm]
    exact congrArg (_ * ·) (congrArg pw (ix4_congr rfl (Fin.ext (by show k.val / 128 = 1; omega)) rfl (Fin.ext (by show k.val % 128 = k.val - 128; omega))))
  by_cases h2 : k.val - 128 - 128 < 128
  · rw [dif_neg h0, dif_neg h1, dif_pos h2]
    refine Finset.sum_congr rfl fun x _ => ?_
    rw [dif_neg (by omega), dif_neg (by omega), dif_pos (by omega), mul_comm]
    exact congrArg (_ * ·) (congrArg pw (ix4_congr rfl (Fin.ext (by show k.val / 128 = 2; omega)) rfl (Fin.ext (by show k.val % 128 = k.val - 128 - 128; omega))))
  · rw [dif_neg h0, dif_neg h1, dif_neg h2]
    refine Finset.sum_congr rfl fun x _ => ?_
    rw [dif_neg (by omega), dif_neg (by omega), dif_neg (by omega), mul_comm]
    exact congrArg (_ * ·) (congrArg pw (ix4_congr rfl (Fin.ext (by show k.val / 128 = 3; omega)) rfl (Fin.ext (by show k.val % 128 = k.val - 128 - 128 - 128; omega))))

end Cert.ReferenceIdeal.Rows

end
-- ==== Proof.RefRows.lean ====
/-
  The reference's rows: what each stage of the reference holds at batch entry `b`, position `s`, as the row function of
  the rows and matrices it is made of; and the result.
-/
module

public import proofs.«01_k».proof.Proof.RefPool

@[expose] public section

noncomputable section

namespace Cert.ReferenceIdeal.Rows

open Cert Idealize.ShloMosaic Idealize.ShloMosaic.Pointwise Cert.ReferenceIdeal Cert.ReferenceIdeal.Gen
  Cert.ReferenceIdeal.Read

variable (x0 : FVec Ideal ⟨3, ![16, 2048, 1024]⟩ .f32) (x1 x2 : FVec Ideal ⟨3, ![16, 2048, 512]⟩ .f32)
    (x3 : FVec Ideal ⟨4, ![1, 16, 2048, 256]⟩ .f32) (x4 x5 : FVec Ideal ⟨1, ![1024]⟩ .f32)
    (x6 : FVec Ideal ⟨4, ![1, 4, 128, 128]⟩ .f32) (x7 : FVec Ideal ⟨2, ![1, 512]⟩ .f32)
    (x8 : FVec Ideal ⟨3, ![1, 1024, 1024]⟩ .f32) (x9 x10 : FVec Ideal ⟨2, ![1, 1024]⟩ .f32)
    (x11 x12 : FVec Ideal ⟨3, ![1, 1024, 2816]⟩ .f32) (x13 : FVec Ideal ⟨3, ![1, 2816, 1024]⟩ .f32)
    (x14 : FVec Ideal ⟨3, ![1, 256, 1024]⟩ .f32) (x15 : FVec Ideal ⟨3, ![1, 1024, 1024]⟩ .f32)
    (x16 x17 : FVec Ideal ⟨2, ![1, 1024]⟩ .f32)

/-- The mean of a row before the input normalisation. -/
theorem mean3 (b : Fin 16) (s : Fin 2048) :
    val_main_v3 (F := Ideal) x0 (ix3 b s 0) = Row.mean fun k => x0 (ix3 b s k) := by
  pointwise [val_main_v3, val_main_v2, val_main_v1, val_main_v0, val_main_cst, val_main_cst_0]
  rfl

/-- A row after the input normalisation. -/
theorem norm0 (b : Fin 16) (s : Fin 2048) (k : Fin 1024) :
    val_main_v23 (F := Ideal) x0 x4 x5 (ix3 b s k)
      = Row.lnorm (fun k => x0 (ix3 b s k)) (fun k => x4 (ix1 k)) (fun k => x5 (ix1 k)) k := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst_1, val_main_cst_2, val_main_cst_3]
  rw [mean3]
  rfl

/-- The projected mixer: the attention's half and the pooled half through the two halves of the matrix. -/
theorem mix_eq (hu : ∀ i, ∃ r : ℝ, x2 i = r) (b : Fin 16) (s : Fin 2048) (c : Fin 1024) :
    val_main_v97 (F := Ideal) x1 x2 x6 x7 x8 (ix3 b s c)
      = Row.mix (fun k => x1 (ix3 b s k))
          (Row.pool (Row.seq x2 b) (fun g i k => x6 (ix4 0 g i k)) (fun k => x7 (ix2 0 k)) s.val)
          (fun k c => x8 (ix3 0 ⟨k.val, by omega⟩ c)) (fun k c => x8 (ix3 0 ⟨512 + k.val, by omega⟩ c)) c := by
  pointwise [val_main_v97, val_main_v96, val_main_v95]
  simp only [pool_eq x2 x6 x7 hu]
  rfl

/-- The residual sum before the second normalisation. -/
theorem resid_eq (b : Fin 16) (s : Fin 2048) (k : Fin 1024) :
    val_main_v100 (F := Ideal) x0 x1 x2 x4 x5 x6 x7 x8 (ix3 b s k)
      = Row.alpha * Row.lnorm (fun k => x0 (ix3 b s k)) (fun k => x4 (ix1 k)) (fun k => x5 (ix1 k)) k
        + val_main_v97 (F := Ideal) x1 x2 x6 x7 x8 (ix3 b s k) := by
  pointwise [val_main_v100, val_main_v99, val_main_v98, val_main_cst_12]
  rw [norm0]
  rfl

/-- The mean of a row before the second normalisation. -/
theorem mean106 (b : Fin 16) (s : Fin 2048) :
    val_main_v106 (F := Ideal) x0 x1 x2 x4 x5 x6 x7 x8 (ix3 b s 0) = Row.mean fun k => val_main_v100 (F := Ideal) x0 x1 x2 x4 x5 x6 x7 x8 (ix3 b s k) := by
  pointwise [val_main_v106, val_main_v105, val_main_v104, val_main_v103, val_main_cst_13, val_main_cst_14]
  rfl

/-- A row after the second normalisation. -/
theorem norm1 (b : Fin 16) (s : Fin 2048) (k : Fin 1024) :
    val_main_v126 (F := Ideal) x0 x1 x2 x4 x5 x6 x7 x8 x9 x10 (ix3 b s k)
      = Row.lnorm (fun k => val_main_v100 (F := Ideal) x0 x1 x2 x4 x5 x6 x7 x8 (ix3 b s k)) (fun k => x9 (ix2 0 k)) (fun k => x10 (ix2 0 k)) k := by
  pointwise [val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_cst_15, val_main_cst_16, val_main_cst_17, val_main_v102, val_main_v101]
  rw [mean106]
  rfl

/-- The gated hidden row of the feed-forward. -/
theorem hidden_eq (b : Fin 16) (s : Fin 2048) (k : Fin 2816) :
    val_main_v132 (F := Ideal) x0 x1 x2 x4 x5 x6 x7 x8 x9 x10 x11 x12 (ix3 b s k)
      = Row.hidden (fun k => val_main_v126 (F := Ideal) x0 x1 x2 x4 x5 x6 x7 x8 x9 x10 (ix3 b s k)) (fun k c => x11 (ix3 0 k c))
          (fun k c => x12 (ix3 0 k c)) k := by
  pointwise [val_main_v132, val_main_v131, val_main_v130, val_main_v129, val_main_v128, val_main_v127, val_main_call5_v0, val_main_call5_v1, val_main_call5_v2, val_main_call5_v3, val_main_call5_v4, val_main_call5_v5, val_main_call5_cst, val_main_call5_cst_0]
  rfl

/-- The row before the last normalisation. -/
theorem tail_eq (b : Fin 16) (s : Fin 2048) (c : Fin 1024) :
    val_main_v150 (F := Ideal) x0 x1 x2 x3 x4 x5 x6 x7 x8 x9 x10 x11 x12 x13 x14 x15 (ix3 b s c)
      = Row.tail (fun k => val_main_v126 (F := Ideal) x0 x1 x2 x4 x5 x6 x7 x8 x9 x10 (ix3 b s k)) (fun k => x3 (ix4 0 b s k))
          (fun k c => x11 (ix3 0 k c)) (fun k c => x12 (ix3 0 k c)) (fun k c => x13 (ix3 0 k c)) (fun k c => x15 (ix3 0 k c))
          (fun k c => x14 (ix3 0 k c)) c := by
  pointwise [val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_cst_18, val_main_cst_19, val_main_cst_20]
  simp only [hidden_eq]
  rfl

/-- The mean of a row before the last normalisation. -/
theorem mean156 (b : Fin 16) (s : Fin 2048) :
    val_main_v156 (F := Ideal) x0 x1 x2 x3 x4 x5 x6 x7 x8 x9 x10 x11 x12 x13 x14 x15 (ix3 b s 0) = Row.mean fun k => val_main_v150 (F := Ideal) x0 x1 x2 x3 x4 x5 x6 x7 x8 x9 x10 x11 x12 x13 x14 x15 (ix3 b s k) := by
  pointwise [val_main_v156, val_main_v155, val_main_v154, val_main_v153, val_main_cst_21, val_main_cst_22]
  rfl

/-- A row after the last normalisation. -/
theorem norm2 (b : Fin 16) (s : Fin 2048) (k : Fin 1024) :
    val_main_v176 (F := Ideal) x0 x1 x2 x3 x4 x5 x6 x7 x8 x9 x10 x11 x12 x13 x14 x15 x16 x17 (ix3 b s k)
      = Row.lnorm (fun k => val_main_v150 (F := Ideal) x0 x1 x2 x3 x4 x5 x6 x7 x8 x9 x10 x11 x12 x13 x14 x15 (ix3 b s k)) (fun k => x16 (ix2 0 k)) (fun k => x17 (ix2 0 k)) k := by
  pointwise [val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_cst_23, val_main_cst_24, val_main_cst_25, val_main_v152, val_main_v151]
  rw [mean156]
  rfl

/-- The reference's result at batch entry `b`, position `s`, column `c`. -/
theorem out_eq (hu : ∀ i, ∃ r : ℝ, x2 i = r) (b : Fin 16) (s : Fin 2048) (c : Fin 1024) :
    val_main_v176 (F := Ideal) x0 x1 x2 x3 x4 x5 x6 x7 x8 x9 x10 x11 x12 x13 x14 x15 x16 x17 (ix3 b s c)
      = Row.out x0 x1 x2 x3 x4 x5 x6 x7 x8 x9 x10 x11 x12 x13 x14 x15 x16 x17 b s c := by
  rw [norm2]
  simp only [tail_eq, norm1, resid_eq, mix_eq x1 x2 x6 x7 x8 hu]
  rfl

/-- The reference's result, its batch and sequence axes one, at row `R` and column `c`. -/
theorem result_eq (hu : ∀ i, ∃ r : ℝ, x2 i = r) (R : Fin 32768) (c : Fin 1024) :
    val_main_v177 (F := Ideal) x0 x1 x2 x3 x4 x5 x6 x7 x8 x9 x10 x11 x12 x13 x14 x15 x16 x17 (ix2 R c)
      = Row.out x0 x1 x2 x3 x4 x5 x6 x7 x8 x9 x10 x11 x12 x13 x14 x15 x16 x17 ⟨R.val / 2048, by omega⟩ ⟨R.val % 2048, by omega⟩ c := by
  pointwise [val_main_v177]
  exact out_eq x0 x1 x2 x3 x4 x5 x6 x7 x8 x9 x10 x11 x12 x13 x14 x15 x16 x17 hu _ _ _

end Cert.ReferenceIdeal.Rows

end
-- ==== Proof.Match.lean ====
/-
  The two programs' results are one array: the precondition makes `u` finite, the reference's result at an index is the
  row function the kernel's result array holds, and the arguments agree.
-/
module

public import proofs.«01_k».proof.Defs
public import proofs.«01_k».proof.Proof.Array
public import proofs.«01_k».proof.Proof.RefRows

@[expose] public section

noncomputable section

namespace Cert.Match

open Idealize.ShloMosaic Idealize.SL.Sem Idealize.ShloMosaic.TcCoe

/-- An extended real whose magnitude is below the printed infinity is a real number. -/
theorem real_of_abs_lt (x : EReal) (h : Ideal.cmp .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- Under the precondition every entry of `u` is finite. -/
theorem finite [hP : Cert.Pre_u_finite.Facts] (m : (ℓ : Loc Cert.KernelIdeal.nD Cert.KernelIdeal.τ Cert.KernelIdeal.sig) → Buf (Elt Ideal) ℓ)
    (h : Cert.Pre_KernelIdeal_u_finite m) (c : Dev Cert.KernelIdeal.nD) (i : Cert.KernelIdeal.S16x2048x512.Idx) :
    ∃ r : ℝ, m ((c.tc : Thread Cert.KernelIdeal.nD Cert.KernelIdeal.τ).loc Cert.KernelIdeal.main_arg2) i = (r : EReal) :=
  real_of_abs_lt _ (congrFun (h c) i)

/-- The reference's result as a function of the arguments, read where the kernel's result array is stated. -/
theorem value (m : (ℓ : Loc Cert.KernelIdeal.nD Cert.KernelIdeal.τ Cert.KernelIdeal.sig) → Buf (Elt Ideal) ℓ) (c : Dev Cert.KernelIdeal.nD)
    (hu : ∀ i : Cert.KernelIdeal.S16x2048x512.Idx,
      ∃ r : ℝ, m ((c.tc : Thread Cert.KernelIdeal.nD Cert.KernelIdeal.τ).loc Cert.KernelIdeal.main_arg2) i = (r : EReal)) :
    Cert.ReferenceIdeal.Read.val_main_v177 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      = Cert.KernelIdeal.Blocks.result m c := by
  funext i
  obtain ⟨R, k, rfl⟩ : ∃ (R : Fin 32768) (k : Fin 1024), i = ix2 R k := ⟨i 0, i 1, Shape.idx_ext₂ rfl rfl⟩
  exact Cert.ReferenceIdeal.Rows.result_eq _ _ _ _ _ _ _ _ _ _ _ _ _ _ _ _ _ _ hu R k

end Cert.Match

end
-- ==== Proof.FrontZ.lean ====
/-
  What one grid point of the front call leaves in its buffer of projected rows, and what it hands out of that buffer: the
  512 input rows normalised and multiplied by the projection matrix in three groups of columns; the output block is columns
  1792 to 2303 of what the point before left there.
-/
module

public import proofs.«01_k».proof.Proof.Gen.Kernel2Ideal.Skeleton
public import Idealize.ShloMosaic.Lib.Pipeline.Value
public import Idealize.ShloMosaic.Lib.Ring
public import Idealize.ShloMosaic.Lib.Tactic

@[expose] public section

set_option maxRecDepth 16384

noncomputable section

namespace Cert.Kernel2Ideal.Front

open Cert.Kernel2Ideal Cert.Kernel2Ideal.Gen Idealize.ShloMosaic Idealize.ShloMosaic.TcCoe Idealize.ShloMosaic.Tactic

variable {F : FTy → Type} [FloatOps F]

/-- The 512 input rows normalised. -/
def normed (x0 : Vec F S512x1024 .f32) (x1 x2 : Vec F S1x1024 .f32) : FVec F S512x1024 .bf16 :=
  k0_pay2757
    (k0_pay2753 (View.ld x0 (Rect.unit (s := S512x1024) ![0, 0] S512x1024.size inb_S512x1024_S512x1024_0_0)))
    (k0_pay2754 (View.ld x1 (Rect.unit (s := S1x1024) ![0, 0] S1x1024.size inb_S1x1024_S1x1024_0_0)))
    (k0_pay2755 (View.ld x2 (Rect.unit (s := S1x1024) ![0, 0] S1x1024.size inb_S1x1024_S1x1024_0_0)))
    (k0_pay2756 (View.ld x0 (Rect.unit (s := S512x1024) ![0, 0] S512x1024.size inb_S512x1024_S512x1024_0_0)))

/-- The three stores of projected columns, the last first. -/
def pieces (x0 : Vec F S512x1024 .f32) (x1 x2 : Vec F S1x1024 .f32) (x3 : Vec F S1024x2304 .bf16) :
    List (View.Piece (Elt F) S512x2304 .f32) :=
  [⟨Rect.unit (s := S512x2304) ![0, 2048] S512x256.size inb_S512x2304_S512x256_0_2048,
      k0_pay2780 (k0_pay2779 (normed x0 x1 x2) (View.ld x3 (Rect.unit (s := S1024x2304) ![0, 2048] S1024x256.size inb_S1024x2304_S1024x256_0_2048)))⟩,
   ⟨Rect.unit (s := S512x2304) ![0, 1280] S512x768.size inb_S512x2304_S512x768_0_1280,
      k0_pay2771 (normed x0 x1 x2) (View.ld x3 (Rect.unit (s := S1024x2304) ![0, 1280] S1024x768.size inb_S1024x2304_S1024x768_0_1280))⟩,
   ⟨Rect.unit (s := S512x2304) ![0, 0] S512x1280.size inb_S512x2304_S512x1280_0_0,
      k0_pay2758
        (k0_pay2753 (View.ld x0 (Rect.unit (s := S512x1024) ![0, 0] S512x1024.size inb_S512x1024_S512x1024_0_0)))
        (k0_pay2754 (View.ld x1 (Rect.unit (s := S1x1024) ![0, 0] S1x1024.size inb_S1x1024_S1x1024_0_0)))
        (k0_pay2755 (View.ld x2 (Rect.unit (s := S1x1024) ![0, 0] S1x1024.size inb_S1x1024_S1x1024_0_0)))
        (k0_pay2756 (View.ld x0 (Rect.unit (s := S512x1024) ![0, 0] S512x1024.size inb_S512x1024_S512x1024_0_0)))
        (View.ld x3 (Rect.unit (s := S1024x2304) ![0, 0] S1024x1280.size inb_S1024x2304_S1024x1280_0_0))⟩]

/-- What the point leaves in the buffer of projected rows. -/
def zblk (x0 : Vec F S512x1024 .f32) (x1 x2 : Vec F S1x1024 .f32) (x3 : Vec F S1024x2304 .bf16) : Vec F S512x2304 .f32 :=
  View.canon (pieces x0 x1 x2 x3)

/-- The last 512 columns of the buffer of projected rows. -/
def tailCols (xs : Vec F S512x2304 .f32) : Vec F S512x512 .f32 :=
  View.ld xs (Rect.unit (s := S512x2304) ![0, 1792] S512x512.size inb_S512x2304_S512x512_0_1792)

/-- What the first point clears the buffer of projected rows to. -/
def zero0 : Vec F S512x2304 .f32 :=
  View.canon [⟨Rect.unit (s := S512x2304) ![0, 0] S512x2304.size inb_S512x2304_S512x2304_0_0, (k0_pay2747 : FVec F S512x2304 .f32)⟩]

/-- The three stores fill the buffer. -/
theorem pieces_cover (x0 : Vec F S512x1024 .f32) (x1 x2 : Vec F S1x1024 .f32) (x3 : Vec F S1024x2304 .bf16) (y : S512x2304.Idx) :
    ∃ p ∈ pieces x0 x1 x2 x3, y ∈ p.1.set :=
  View.cover_of_tiledBy (pieces x0 x1 x2 x3) ![512, 256] (by sl_kernel_rfl) y

/-- Reading the buffer after the three stores over any contents. -/
theorem read_z {sig : RefSig} {κ : Kind} {sp : Space} (v : View sig κ sp S512x2304 .f32) (f : v.ty.Contents (Elt F))
    (x0 : Vec F S512x1024 .f32) (x1 x2 : Vec F S1x1024 .f32) (x3 : Vec F S1024x2304 .bf16) :
    v.read (Elt F) (v.writes (Elt F) f (pieces x0 x1 x2 x3)) = zblk x0 x1 x2 x3 :=
  View.read_writes_eq_canon v f _ (pieces_cover x0 x1 x2 x3)

/-- A list of stores after another list of stores. -/
theorem writes_append {sig : RefSig} {κ : Kind} {sp : Space} {s : Shape} {e : EltTy} (v : View sig κ sp s e) (f : v.ty.Contents (Elt F))
    (L L' : List (View.Piece (Elt F) s e)) :
    v.writes (Elt F) f (L ++ L') = v.writes (Elt F) (v.writes (Elt F) f L') L := by
  induction L with
  | nil => rfl
  | cons p L ih => exact congrArg (fun g => v.writes (Elt F) g [p]) ih

/-- The same where earlier stores lie under them. -/
theorem read_z_over {sig : RefSig} {κ : Kind} {sp : Space} (v : View sig κ sp S512x2304 .f32) (f : v.ty.Contents (Elt F))
    (L : List (View.Piece (Elt F) S512x2304 .f32))
    (x0 : Vec F S512x1024 .f32) (x1 x2 : Vec F S1x1024 .f32) (x3 : Vec F S1024x2304 .bf16) :
    v.read (Elt F) (v.writes (Elt F) f (pieces x0 x1 x2 x3 ++ L)) = zblk x0 x1 x2 x3 :=
  (congrArg (v.read (Elt F)) (writes_append v f _ L)).trans (read_z v (v.writes (Elt F) f L) x0 x1 x2 x3)

/-- Reading a block of rows after one store of all of it. -/
theorem read_u {sig : RefSig} {κ : Kind} {sp : Space} (v : View sig κ sp S512x512 .f32) (f : v.ty.Contents (Elt F))
    (w : Vec F S512x512 .f32) :
    v.read (Elt F) (v.writes (Elt F) f [⟨Rect.unit (s := S512x512) ![0, 0] S512x512.size inb_S512x512_S512x512_0_0, w⟩]) = w := by
  have hc : ∀ y : S512x512.Idx, ∃ p ∈ ([⟨Rect.unit (s := S512x512) ![0, 0] S512x512.size inb_S512x512_S512x512_0_0, w⟩] : List (View.Piece (Elt F) S512x512 .f32)), y ∈ p.1.set :=
    View.cover_of_tiledBy _ ![512, 512] (by sl_kernel_rfl)
  have hz : (![0, 0] : Fin 2 → ℕ) = fun _ => 0 := by funext a; fin_cases a <;> rfl
  exact (View.read_writes_eq_canon v f _ hc).trans (View.canon_unit_zero hz _ w)

/-- The last 512 columns of the cleared buffer. -/
theorem readCov_zero {sig : RefSig} {κ : Kind} {sp : Space} (v : View sig κ sp S512x2304 .f32) :
    v.readCov (Val := Elt F) [⟨Rect.unit (s := S512x2304) ![0, 0] S512x2304.size inb_S512x2304_S512x2304_0_0, (k0_pay2747 : FVec F S512x2304 .f32)⟩]
      (Rect.unit (s := S512x2304) ![0, 1792] S512x512.size inb_S512x2304_S512x512_0_1792).toLoadRect = tailCols zero0 := by
  rw [View.readCov_eq_canon' v]
  unfold zero0
  generalize (View.canon (Val := Elt F) _ : Vec F S512x2304 .f32) = z
  rfl

end Cert.Kernel2Ideal.Front

end
-- ==== Proof.FrontBodyA.lean ====
/-
  The body of the front call at the first point, run once over any values: what it leaves in the buffer of projected rows and in the
  block of `u` it hands out; of its other buffers only that the body may write them.
-/
module

public import proofs.«01_k».proof.Proof.Gen.Kernel2Ideal.Frame.Runs
public import proofs.«01_k».proof.Proof.FrontZ

@[expose] public section

set_option maxRecDepth 16384

noncomputable section

namespace Cert.Kernel2Ideal.Front

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at the first point: with the inputs' blocks in their buffers it runs to the end; it leaves the projected rows in their buffer and hands out the last columns of the cleared buffer. -/
theorem bodyRun_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1024 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S64x64 .bf16) (harg16 : arg16.IsWhole) (arg17 : Memref sig .tc .vmem S512x512 .f32) (harg17 : arg17.IsWhole) (arg18 : Memref sig .tc .vmem S512x512 .f32) (harg18 : arg18.IsWhole) (arg19 : Memref sig .tc .vmem S512x2304 .f32) (harg19 : arg19.IsWhole) (arg20 : Memref sig .tc .vmem S8x1792 .f32) (harg20 : arg20.IsWhole) (arg21 : Memref sig .tc .vmem S4x128x128 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (hc0 : cond0_0 i) (hc1 : cond0_1 i)
    (x0 : Vec F S512x1024 .f32) (x1 : Vec F S1x1024 .f32) (x2 : Vec F S1x1024 .f32) (x3 : Vec F S1024x2304 .bf16) (x4 : Vec F S1x1792 .f32) (x5 : Vec F S1x512 .f32) (x6 : Vec F S1x512 .f32) (x7 : Vec F S128x1024 .bf16) (x8 : Vec F S128x512 .bf16) (x9 : Vec F S1x512 .f32) (x10 : Vec F S1x512 .f32) (x11 : Vec F S1x512 .f32) (x12 : Vec F S1x512 .f32) (x13 : Vec F S1x512 .f32) (x14 : Vec F S128x128 .bf16) (x15 : Vec F S64x64 .bf16) :
          ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare (tailCols zero0) ∗ owns (c : Thread nD τ) arg19 fullShare (zblk x0 x1 x2 x3) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  intro E K
  · skip
    simp only [cc0_front_eq_skeleton]; unfold cc0_front_skel
    simp only [k0_part195_eq_skeleton, k0_part196_eq_skeleton, k0_part197_eq_skeleton, k0_part198_eq_skeleton, k0_part199_eq_skeleton, k0_part200_eq_skeleton, k0_part201_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _; isplitr; swap; · iexact H17
      ipureintro; sl_unfold_words
      exact (read_u _ _ _).trans (readCov_zero _)
    isplitl [HS0]
    · iexists _; isplitr; swap; · iexact HS0
      ipureintro; sl_unfold_words
      simp only [View.readAt_eq_ld, Memref.IsWhole.read_unread]
      exact read_z_over _ _ _ x0 x1 x2 x3
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    iexists _, _; isplitr; swap; · iexact HS11
    ipureintro; rfl

end Cert.Kernel2Ideal.Front

end
-- ==== Proof.FrontBodyB.lean ====
/-
  The body of the front call at a later point that opens a sequence, run once over any values: what it leaves in the buffer of projected rows and in the
  block of `u` it hands out; of its other buffers only that the body may write them.
-/
module

public import proofs.«01_k».proof.Proof.Gen.Kernel2Ideal.Frame.Runs
public import proofs.«01_k».proof.Proof.FrontZ

@[expose] public section

set_option maxRecDepth 16384

noncomputable section

namespace Cert.Kernel2Ideal.Front

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at a later point that opens a sequence: with the inputs' blocks in their buffers it runs to the end; it leaves the projected rows in their buffer and hands out the last columns of what that buffer held. -/
theorem bodyRun_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1024 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S64x64 .bf16) (harg16 : arg16.IsWhole) (arg17 : Memref sig .tc .vmem S512x512 .f32) (harg17 : arg17.IsWhole) (arg18 : Memref sig .tc .vmem S512x512 .f32) (harg18 : arg18.IsWhole) (arg19 : Memref sig .tc .vmem S512x2304 .f32) (harg19 : arg19.IsWhole) (arg20 : Memref sig .tc .vmem S8x1792 .f32) (harg20 : arg20.IsWhole) (arg21 : Memref sig .tc .vmem S4x128x128 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (hc0 : ¬cond0_0 i) (hc1 : cond0_1 i)
    (x0 : Vec F S512x1024 .f32) (x1 : Vec F S1x1024 .f32) (x2 : Vec F S1x1024 .f32) (x3 : Vec F S1024x2304 .bf16) (x4 : Vec F S1x1792 .f32) (x5 : Vec F S1x512 .f32) (x6 : Vec F S1x512 .f32) (x7 : Vec F S128x1024 .bf16) (x8 : Vec F S128x512 .bf16) (x9 : Vec F S1x512 .f32) (x10 : Vec F S1x512 .f32) (x11 : Vec F S1x512 .f32) (x12 : Vec F S1x512 .f32) (x13 : Vec F S1x512 .f32) (x14 : Vec F S128x128 .bf16) (x15 : Vec F S64x64 .bf16) (xs0 : Vec F S512x2304 .f32) :
          ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare xs0 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare (tailCols xs0) ∗ owns (c : Thread nD τ) arg19 fullShare (zblk x0 x1 x2 x3) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  intro E K
  · skip
    simp only [cc0_front_eq_skeleton]; unfold cc0_front_skel
    simp only [k0_part195_eq_skeleton, k0_part196_eq_skeleton, k0_part197_eq_skeleton, k0_part198_eq_skeleton, k0_part199_eq_skeleton, k0_part200_eq_skeleton, k0_part201_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _; isplitr; swap; · iexact H17
      ipureintro; sl_unfold_words
      exact read_u _ _ _
    isplitl [HS0]
    · iexists _; isplitr; swap; · iexact HS0
      ipureintro; sl_unfold_words
      simp only [View.readAt_eq_ld, Memref.IsWhole.read_unread]
      exact read_z _ _ x0 x1 x2 x3
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    iexists _, _; isplitr; swap; · iexact HS11
    ipureintro; rfl

end Cert.Kernel2Ideal.Front

end
-- ==== Proof.FrontBodyC.lean ====
/-
  The body of the front call at any other point, run once over any values: what it leaves in the buffer of projected rows and in the
  block of `u` it hands out; of its other buffers only that the body may write them.
-/
module

public import proofs.«01_k».proof.Proof.Gen.Kernel2Ideal.Frame.Runs
public import proofs.«01_k».proof.Proof.FrontZ

@[expose] public section

set_option maxRecDepth 16384

noncomputable section

namespace Cert.Kernel2Ideal.Front

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at any other point: with the inputs' blocks in their buffers it runs to the end; it leaves the projected rows in their buffer and hands out the last columns of what that buffer held. -/
theorem bodyRun_C (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x1024 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S64x64 .bf16) (harg16 : arg16.IsWhole) (arg17 : Memref sig .tc .vmem S512x512 .f32) (harg17 : arg17.IsWhole) (arg18 : Memref sig .tc .vmem S512x512 .f32) (harg18 : arg18.IsWhole) (arg19 : Memref sig .tc .vmem S512x2304 .f32) (harg19 : arg19.IsWhole) (arg20 : Memref sig .tc .vmem S8x1792 .f32) (harg20 : arg20.IsWhole) (arg21 : Memref sig .tc .vmem S4x128x128 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (hc0 : ¬cond0_0 i) (hc1 : ¬cond0_1 i)
    (x0 : Vec F S512x1024 .f32) (x1 : Vec F S1x1024 .f32) (x2 : Vec F S1x1024 .f32) (x3 : Vec F S1024x2304 .bf16) (x4 : Vec F S1x1792 .f32) (x5 : Vec F S1x512 .f32) (x6 : Vec F S1x512 .f32) (x7 : Vec F S128x1024 .bf16) (x8 : Vec F S128x512 .bf16) (x9 : Vec F S1x512 .f32) (x10 : Vec F S1x512 .f32) (x11 : Vec F S1x512 .f32) (x12 : Vec F S1x512 .f32) (x13 : Vec F S1x512 .f32) (x14 : Vec F S128x128 .bf16) (x15 : Vec F S64x64 .bf16) (xs0 : Vec F S512x2304 .f32) :
          ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare xs0 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare (tailCols xs0) ∗ owns (c : Thread nD τ) arg19 fullShare (zblk x0 x1 x2 x3) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  intro E K
  · skip
    simp only [cc0_front_eq_skeleton]; unfold cc0_front_skel
    simp only [k0_part195_eq_skeleton, k0_part196_eq_skeleton, k0_part197_eq_skeleton, k0_part198_eq_skeleton, k0_part199_eq_skeleton, k0_part200_eq_skeleton, k0_part201_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _; isplitr; swap; · iexact H17
      ipureintro; sl_unfold_words
      exact read_u _ _ _
    isplitl [HS0]
    · iexists _; isplitr; swap; · iexact HS0
      ipureintro; sl_unfold_words
      simp only [View.readAt_eq_ld, Memref.IsWhole.read_unread]
      exact read_z _ _ x0 x1 x2 x3
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    iexists _, _; isplitr; swap; · iexact HS11
    ipureintro; rfl

end Cert.Kernel2Ideal.Front

end
-- ==== Proof.FrontFrame.lean ====
/-
  The front call's frame, by its own runs of the body: what is kept between points is the buffer of projected rows at what
  the point before left; each block of `u` is the last columns of that buffer; of the first output nothing is stated.
-/
module

public import proofs.«01_k».proof.Proof.FrontBodyA
public import proofs.«01_k».proof.Proof.FrontBodyB
public import proofs.«01_k».proof.Proof.FrontBodyC
public import Idealize.ShloMosaic.Lib.Claim

@[expose] public section

set_option maxRecDepth 16384

noncomputable section

namespace Cert.Kernel2Ideal.Front

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The projected rows point `t` leaves. -/
def zAt (c : Dev nD) (t : Fin cfg0.N) : Vec F S512x2304 .f32 :=
  zblk (iblk m c 0 t) (iblk m c 1 t) (iblk m c 2 t) (iblk m c 3 t)

theorem zAt_eq (c : Dev nD) (t : Fin cfg0.N) : zAt m c ⟨t.val, t.isLt⟩ = zblk (iblk m c 0 t) (iblk m c 1 t) (iblk m c 2 t) (iblk m c 3 t) := rfl

/-- The block of `u` point `t` hands out: the last columns of what the point before left, of the cleared buffer at the first. -/
def uAt (c : Dev nD) (t : Fin cfg0.N) : Vec F S512x512 .f32 :=
  if h : t.val = 0 then tailCols zero0 else tailCols (zAt m c ⟨t.val - 1, by have := t.isLt; omega⟩)

theorem uAt_zero (c : Dev nD) (t : Fin cfg0.N) (h : t.val = 0) : uAt m c t = tailCols zero0 := dif_pos h

theorem uAt_pos (c : Dev nD) (t : Fin cfg0.N) (h : t.val ≠ 0) :
    uAt m c t = tailCols (zAt m c ⟨t.val - 1, by have := t.isLt; omega⟩) := dif_neg h

/-- What is kept between points: before the first point every buffer at anything; afterwards the buffer of projected rows at
    what the point before left, the others at anything. -/
def PhiS (c : Dev nD) : (n : ℕ) → n ≤ cfg0.N → sProp 𝕄
  | 0, _ => Pipeline.ΦA spec0 c
  | n + 1, hn => iprop(iprop(owns (c : Thread nD τ) scM0_0 fullShare (zAt m c ⟨n, hn⟩) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r))

theorem PhiS_zero (c : Dev nD) (n : ℕ) (h : n ≤ cfg0.N) (hz : n = 0) : PhiS m c n h = Pipeline.ΦA spec0 c := by
  subst hz; rfl

/-- After a point the buffer of projected rows holds that point's. -/
theorem PhiS_succ (c : Dev nD) (n : ℕ) (hn : n < cfg0.N) :
    PhiS m c (n + 1) hn = iprop(iprop(owns (c : Thread nD τ) scM0_0 fullShare (zAt m c ⟨n, hn⟩) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := rfl

/-- Before a point that is not the first it holds the point before's. -/
theorem PhiS_pos (c : Dev nD) (n : ℕ) (h : n ≤ cfg0.N) (hz : n ≠ 0) :
    PhiS m c n h = iprop(iprop(owns (c : Thread nD τ) scM0_0 fullShare (zAt m c ⟨n - 1, by omega⟩) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  cases n with
  | zero => exact absurd rfl hz
  | succ n => rfl

/-- Of the first output (the mixer's rows) nothing is stated. -/
def forgets0 : Fin 18 → Bool := fun w => w.val == 16

/-- The call's proof data: the arrays as the region finds them, each input's buffer at its block, the block of `u` at the
    columns the point before left, the first output at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, _⟩ => uAt m c t
    | ⟨_ + 18, h⟩ => absurd h (Nat.not_lt.2 (Nat.le_add_left _ _))
  Φ t := PhiS m c t.val (Nat.le_of_lt_succ t.isLt)
  q _ := fullShare
  owed _ := 0

/-- The arrays are the region's. -/
theorem A_eq (c : Dev nD) (w : Fin cfg0.W) : (dats m 0 c).A w = V m c (Pipeline.arrRef spec0 w) := by
  dsimp only [dats]

/-- What is kept before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_17 (c : Dev nD) (t : Fin cfg0.N) : (dats m 0 c).after 17 t = uAt m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ owns (c : Thread nD τ) (ms0_17 t) fullShare ((dats m 0 c).after 17 t))

set_option maxHeartbeats 33600000 in
/-- The body at any point, by the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_17]
  rw [show (dats m 0 c).Φ t.succ = PhiS m c (t.val + 1) t.isLt from rfl, PhiS_succ, zAt_eq]
  have hN : t.val < 65 := lt_of_lt_of_eq t.isLt (show cfg0.N = 65 from N_0)
  by_cases h0 : t.val % 65 = 0
  · by_cases h1 : (t.val % 65 = 0 ∨ t.val % 65 = 1 ∨ t.val % 65 = 5 ∨ t.val % 65 = 9 ∨ t.val % 65 = 13 ∨ t.val % 65 = 17 ∨ t.val % 65 = 21 ∨ t.val % 65 = 25 ∨ t.val % 65 = 29 ∨ t.val % 65 = 33 ∨ t.val % 65 = 37 ∨ t.val % 65 = 41 ∨ t.val % 65 = 45 ∨ t.val % 65 = 49 ∨ t.val % 65 = 53 ∨ t.val % 65 = 57 ∨ t.val % 65 = 61)
    · by_cases hz : t.val = 0
      · rw [PhiS_castSucc m c t, PhiS_zero m c _ _ hz, PhiA0_eq]
        rw [uAt_zero m c t hz]
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply (bodyRun_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, H12, H13, H14, H15, H16, H17, HS0, HS1, HS2, HS3, HS4, HS5, HS6, HS7, HS8, HS9, HS10, HS11⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            isplitl [HS8]
            · iexact HS8
            isplitl [HS9]
            · iexact HS9
            isplitl [HS10]
            · iexact HS10
            iexact HS11
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      · exfalso; have hN : t.val < 65 := lt_of_lt_of_eq t.isLt (show cfg0.N = 65 from N_0); omega
    · exfalso; omega
  · by_cases h1 : (t.val % 65 = 0 ∨ t.val % 65 = 1 ∨ t.val % 65 = 5 ∨ t.val % 65 = 9 ∨ t.val % 65 = 13 ∨ t.val % 65 = 17 ∨ t.val % 65 = 21 ∨ t.val % 65 = 25 ∨ t.val % 65 = 29 ∨ t.val % 65 = 33 ∨ t.val % 65 = 37 ∨ t.val % 65 = 41 ∨ t.val % 65 = 45 ∨ t.val % 65 = 49 ∨ t.val % 65 = 53 ∨ t.val % 65 = 57 ∨ t.val % 65 = 61)
    · by_cases hz : t.val = 0
      · exfalso; have hN : t.val < 65 := lt_of_lt_of_eq t.isLt (show cfg0.N = 65 from N_0); omega
      · rw [PhiS_castSucc m c t, PhiS_pos m c _ _ hz]
        rw [uAt_pos m c t hz]
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply (bodyRun_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, H12, H13, H14, H15, H16, H17, HS0, HS1, HS2, HS3, HS4, HS5, HS6, HS7, HS8, HS9, HS10, HS11⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            isplitl [HS8]
            · iexact HS8
            isplitl [HS9]
            · iexact HS9
            isplitl [HS10]
            · iexact HS10
            iexact HS11
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
    · by_cases hz : t.val = 0
      · exfalso; have hN : t.val < 65 := lt_of_lt_of_eq t.isLt (show cfg0.N = 65 from N_0); omega
      · rw [PhiS_castSucc m c t, PhiS_pos m c _ _ hz]
        rw [uAt_pos m c t hz]
        iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply (bodyRun_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iintro ⟨H0, H1, H2, H3, H4, H5, H6, H7, H8, H9, H10, H11, H12, H13, H14, H15, H16, H17, HS0, HS1, HS2, HS3, HS4, HS5, HS6, HS7, HS8, HS9, HS10, HS11⟩
        isplitl [HS0 HS1 HS2 HS3 HS4 HS5 HS6 HS7 HS8 HS9 HS10 HS11 Hg]
        · isplitl [HS0 HS1 HS2 HS3 HS4 HS5 HS6 HS7 HS8 HS9 HS10 HS11]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            isplitl [HS8]
            · iexact HS8
            isplitl [HS9]
            · iexact HS9
            isplitl [HS10]
            · iexact HS10
            iexact HS11
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17

/-- The body's row of the table is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands over is what is kept before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first what is kept can be given back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11⟩, Hg⟩
  isplitl [HS0 HS1 HS2 HS3 HS4 HS5 HS6 HS7 HS8 HS9 HS10 HS11]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    iexact HS11
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

set_option backward.isDefEq.respectTransparency.types false in
/-- The launch: it ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

/-- The frame over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

/-- The second output's array and the arguments at the end. -/
theorem run_u : θ_run defs (onTc (τ := τ) (main (F := F))) ⟨m, fun _ => 0, ρ⟩ (fun r => ∀ c : Dev nD,
      r.2.mem ((c.tc : Thread nD τ).loc main_v45_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((dats m 0 c).toRForget_arrAt_iff (fgt := forgets0) (w := 17) (by decide) _ _).mp ((h c).1 17),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.Kernel2Ideal.Front

end
-- ==== Proof.FrontRows.lean ====
/-
  What the front call's staged blocks hold at a grid point in terms of the arguments, and the projected rows a point leaves,
  over the extended reals: row `r` of point `t`'s block is row `t * 512 + r` of the input normalised, and column `c` of its
  projection the sum over the row of the normalised entries times the projection's entries.
-/
module

public import proofs.«01_k».proof.Proof.FrontFrame
public import proofs.«01_k».proof.Proof.Row
public import Idealize.ShloMosaic.Lib.StableHlo.ReadAt
public import Idealize.ShloMosaic.Lib.Tactic.WordOmega

@[expose] public section

noncomputable section

namespace Cert.Kernel2Ideal.Front

open Cert Idealize.ShloMosaic Idealize.ShloMosaic.Pointwise Idealize.ShloMosaic.TcCoe Cert.Kernel2Ideal Cert.Kernel2Ideal.Gen

variable (m : (ℓ : Loc nD τ sig) → Buf (Elt Ideal) ℓ) (c : Dev nD)

/-- The array of input rows the region finds, at an index. -/
theorem arr12 (b : Fin 16) (s : Fin 2048) (k : Fin 1024) : V m c main_v12 (ix2 ⟨b.val * 2048 + s.val, by omega⟩ k) = m ((c : Thread nD τ).loc main_arg0) (ix3 b s k) := by
  unfold V
  after_reads_at

/-- The array of the gain the region finds, at an index. -/
theorem arr33 (k : Fin 1024) : V m c main_v33 (ix2 0 k) = m ((c : Thread nD τ).loc main_arg1) (ix1 k) := by
  unfold V
  after_reads_at

/-- The array of the bias the region finds, at an index. -/
theorem arr34 (k : Fin 1024) : V m c main_v34 (ix2 0 k) = m ((c : Thread nD τ).loc main_arg2) (ix1 k) := by
  unfold V
  after_reads_at

/-- The array of the projection the region finds, at an index. -/
theorem arr35 (i : Fin 1024) (k : Fin 2304) : V m c main_v35 (ix2 i k) = m ((c : Thread nD τ).loc main_arg3) (ix3 0 i k) := by
  unfold V
  after_reads_at

/-- There are 65 grid points. -/
theorem lt65 (t : Fin cfg0.N) : t.val < 65 := t.isLt

/-- The block index of the input rows: the grid point, the last but one's at the last. -/
theorem index0 : ∀ t : Fin cfg0.N, win0_0.index t 0 = min t.val 63 ∧ win0_0.index t 1 = 0 :=
  (by decide +kernel : ∀ t : Fin grid0.N, win0_0.index t 0 = min t.val 63 ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

/-- The block index of the rows of `u`: the point before's. -/
theorem index17 : ∀ t : Fin cfg0.N, win0_17.index t 0 = t.val - 1 ∧ win0_17.index t 1 = 0 :=
  (by decide +kernel : ∀ t : Fin grid0.N, win0_17.index t 0 = t.val - 1 ∧ win0_17.index t 1 = 0)

/-- Every point but the first writes its block of `u` back. -/
theorem flush17 : ∀ t : Fin cfg0.N, (cfg0.win 17).flush t = true ↔ t.val ≠ 0 :=
  (by decide +kernel : ∀ t : Fin grid0.N, win0_17.flush t = true ↔ t.val ≠ 0)

/-- The block of input rows at an index. -/
theorem blk0 (t : Fin cfg0.N) (ht : t.val < 64) (r : Fin 512) (k : Fin 1024) :
    iblk m c 0 t (ix2 r k) = m ((c : Thread nD τ).loc main_arg0) (ix3 ⟨t.val / 4, by omega⟩ ⟨t.val % 4 * 512 + r.val, by omega⟩ k) := by
  have e : (win0_0.rect t).emb (ix2 r k) = ix2 (⟨t.val / 4 * 2048 + (t.val % 4 * 512 + r.val), by omega⟩ : Fin 32768) k :=
    Shape.idx_ext₂
      ((win0_0.rect_emb_val t _ 0).trans (by
        rw [(index0 t).1]; show min t.val 63 * 512 + r.val = t.val / 4 * 2048 + (t.val % 4 * 512 + r.val); omega))
      (win0_0.rect_emb_val_of_index_zero t 1 (index0 t).2 _)
  refine (congrArg (V m c main_v12) e).trans ?_
  exact arr12 m c ⟨t.val / 4, by omega⟩ ⟨t.val % 4 * 512 + r.val, by omega⟩ k

/-- The gain at an index. -/
theorem blk1 (t : Fin cfg0.N) (k : Fin 1024) : iblk m c 1 t (ix2 0 k) = m ((c : Thread nD τ).loc main_arg1) (ix1 k) :=
  (congrArg (V m c main_v33) (show (win0_1.rect t).emb (ix2 0 k) = ix2 0 k from
    Shape.idx_ext₂ (win0_1.rect_emb_val_of_index_zero t 0 (index1 t).1 _) (win0_1.rect_emb_val_of_index_zero t 1 (index1 t).2 _))).trans (arr33 m c k)

/-- The bias at an index. -/
theorem blk2 (t : Fin cfg0.N) (k : Fin 1024) : iblk m c 2 t (ix2 0 k) = m ((c : Thread nD τ).loc main_arg2) (ix1 k) :=
  (congrArg (V m c main_v34) (show (win0_2.rect t).emb (ix2 0 k) = ix2 0 k from
    Shape.idx_ext₂ (win0_2.rect_emb_val_of_index_zero t 0 (index2 t).1 _) (win0_2.rect_emb_val_of_index_zero t 1 (index2 t).2 _))).trans (arr34 m c k)

/-- The projection at an index. -/
theorem blk3 (t : Fin cfg0.N) (i : Fin 1024) (k : Fin 2304) : iblk m c 3 t (ix2 i k) = m ((c : Thread nD τ).loc main_arg3) (ix3 0 i k) :=
  (congrArg (V m c main_v35) (show (win0_3.rect t).emb (ix2 i k) = ix2 i k from
    Shape.idx_ext₂ (win0_3.rect_emb_val_of_index_zero t 0 (index3 t).1 _) (win0_3.rect_emb_val_of_index_zero t 1 (index3 t).2 _))).trans (arr35 m c i k)

/-! ## The projected rows -/

/-- A load of all the input rows, at an index. -/
theorem ldx (x : Vec Ideal S512x1024 .f32) (r : Fin 512) (k : Fin 1024) :
    View.ld (Val := Elt Ideal) (e' := .f32) x (Rect.unit (s := S512x1024) ![0, 0] S512x1024.size inb_S512x1024_S512x1024_0_0) (ix2 r k) = x (ix2 r k) :=
  congrArg x (Shape.idx_ext₂ (by show 0 + 1 * r.val = r.val; omega) (by show 0 + 1 * k.val = k.val; omega))

/-- A load of a gain or bias, at an index. -/
theorem ldg (x : Vec Ideal S1x1024 .f32) (k : Fin 1024) :
    View.ld (Val := Elt Ideal) (e' := .f32) x (Rect.unit (s := S1x1024) ![0, 0] S1x1024.size inb_S1x1024_S1x1024_0_0) (ix2 0 k) = x (ix2 0 k) :=
  congrArg x (Shape.idx_ext₂ rfl (by show 0 + 1 * k.val = k.val; omega))

/-- A load of the last group of the projection's columns, at an index. -/
theorem ldw2 (x : Vec Ideal S1024x2304 .bf16) (i : Fin 1024) (k : Fin 256) :
    View.ld (Val := Elt Ideal) (e' := .bf16) x (Rect.unit (s := S1024x2304) ![0, 2048] S1024x256.size inb_S1024x2304_S1024x256_0_2048) (ix2 i k)
      = x (ix2 i ⟨2048 + k.val, by omega⟩) :=
  congrArg x (Shape.idx_ext₂ (by show 0 + 1 * i.val = i.val; omega) (by show 2048 + 1 * k.val = 2048 + k.val; omega))

/-- A load of the middle group, at an index. -/
theorem ldw1 (x : Vec Ideal S1024x2304 .bf16) (i : Fin 1024) (k : Fin 768) :
    View.ld (Val := Elt Ideal) (e' := .bf16) x (Rect.unit (s := S1024x2304) ![0, 1280] S1024x768.size inb_S1024x2304_S1024x768_0_1280) (ix2 i k)
      = x (ix2 i ⟨1280 + k.val, by omega⟩) :=
  congrArg x (Shape.idx_ext₂ (by show 0 + 1 * i.val = i.val; omega) (by show 1280 + 1 * k.val = 1280 + k.val; omega))

/-- A load of the first group, at an index. -/
theorem ldw0 (x : Vec Ideal S1024x2304 .bf16) (i : Fin 1024) (k : Fin 1280) :
    View.ld (Val := Elt Ideal) (e' := .bf16) x (Rect.unit (s := S1024x2304) ![0, 0] S1024x1280.size inb_S1024x2304_S1024x1280_0_0) (ix2 i k)
      = x (ix2 i ⟨k.val, by omega⟩) :=
  congrArg x (Shape.idx_ext₂ (by show 0 + 1 * i.val = i.val; omega) (by show 0 + 1 * k.val = k.val; omega))

/-- The normalisation at an index, from what it loads. -/
theorem norm_apply (X : FVec Ideal S512x1024 .f32) (G B : FVec Ideal S1x1024 .f32) (r : Fin 512) (k : Fin 1024) :
    k0_pay2757 (F := Ideal) (k0_pay2753 X) (k0_pay2754 G) (k0_pay2755 B) (k0_pay2756 X) (ix2 r k)
      = Row.lnorm (fun k => X (ix2 r k)) (fun k => G (ix2 0 k)) (fun k => B (ix2 0 k)) k := by
  pointwise [k0_pay2757, k0_pay2753, k0_pay2754, k0_pay2755, k0_pay2756, Row.lnorm, Row.mean]

/-- The normalised rows at an index. -/
theorem normed_apply (x0 : Vec Ideal S512x1024 .f32) (x1 x2 : Vec Ideal S1x1024 .f32) (r : Fin 512) (k : Fin 1024) :
    normed (F := Ideal) x0 x1 x2 (ix2 r k) = Row.lnorm (fun k => x0 (ix2 r k)) (fun k => x1 (ix2 0 k)) (fun k => x2 (ix2 0 k)) k := by
  unfold normed
  refine (norm_apply _ _ _ r k).trans ?_
  rw [show (fun k => View.ld (Val := Elt Ideal) (e' := .f32) x0 (Rect.unit (s := S512x1024) ![0, 0] S512x1024.size inb_S512x1024_S512x1024_0_0) (ix2 r k)) = fun k => x0 (ix2 r k) from funext (ldx x0 r),
    show (fun k => View.ld (Val := Elt Ideal) (e' := .f32) x1 (Rect.unit (s := S1x1024) ![0, 0] S1x1024.size inb_S1x1024_S1x1024_0_0) (ix2 0 k)) = fun k => x1 (ix2 0 k) from funext (ldg x1),
    show (fun k => View.ld (Val := Elt Ideal) (e' := .f32) x2 (Rect.unit (s := S1x1024) ![0, 0] S1x1024.size inb_S1x1024_S1x1024_0_0) (ix2 0 k)) = fun k => x2 (ix2 0 k) from funext (ldg x2)]

/-- The last group's products at an index. -/
theorem prod2 (h : FVec Ideal S512x1024 .bf16) (w : FVec Ideal S1024x256 .bf16) (r : Fin 512) (k : Fin 256) :
    k0_pay2780 (F := Ideal) (k0_pay2779 h w) (ix2 r k) = ∑ i : Fin 1024, h (ix2 r i) * w (ix2 i k) := by
  pointwise [k0_pay2780, k0_pay2779]

/-- The middle group's products at an index. -/
theorem prod1 (h : FVec Ideal S512x1024 .bf16) (w : FVec Ideal S1024x768 .bf16) (r : Fin 512) (k : Fin 768) :
    k0_pay2771 (F := Ideal) h w (ix2 r k) = ∑ i : Fin 1024, h (ix2 r i) * w (ix2 i k) := by
  pointwise [k0_pay2771]

/-- A product after the normalisation, as a product of the normalised rows. -/
def prodArr0 (h : FVec Ideal S512x1024 .bf16) (w : FVec Ideal S1024x1280 .bf16) : FVec Ideal S512x1280 .f32 :=
  shapeCast S512x1280 (matmul dot_S512x1024_S1024x1280_S512x1280_1_0_0_1_n_n none h
    (shapeCast S1024x1280 w shapeCasts_S1024x1280_S1024x1280) (constant S512x1280 .f32 0x00000000#32)) shapeCasts_S512x1280_S512x1280

/-- The first group's products at an index. -/
theorem prod0 (h : FVec Ideal S512x1024 .bf16) (w : FVec Ideal S1024x1280 .bf16) (r : Fin 512) (k : Fin 1280) :
    prodArr0 h w (ix2 r k) = ∑ i : Fin 1024, h (ix2 r i) * w (ix2 i k) := by
  pointwise [prodArr0]

/-- The projected rows at an index: the sum over the normalised row of its entries times the projection's. -/
theorem zblk_apply (x0 : Vec Ideal S512x1024 .f32) (x1 x2 : Vec Ideal S1x1024 .f32) (x3 : Vec Ideal S1024x2304 .bf16) (y : S512x2304.Idx) :
    zblk (F := Ideal) x0 x1 x2 x3 y
      = ∑ i : Fin 1024, normed (F := Ideal) x0 x1 x2 (ix2 (n0 := 512) (y 0) i) * x3 (ix2 (n1 := 2304) i (y 1)) := by
  unfold zblk
  refine View.canon_apply_of_pieces (Val := Elt Ideal) (e := .f32) (fun y : S512x2304.Idx =>
    (∑ i : Fin 1024, normed (F := Ideal) x0 x1 x2 (ix2 (n0 := 512) (y 0) i) * x3 (ix2 (n1 := 2304) i (y 1)) : EReal)) _ ?_ y (pieces_cover x0 x1 x2 x3 y)
  intro p hp x
  unfold pieces at hp
  rcases List.mem_cons.mp hp with rfl | hp
  · have hx : x = ix2 (n0 := 512) (n1 := 256) (x 0) (x 1) := Shape.idx_ext₂ rfl rfl
    rw [hx]
    refine (prod2 _ _ (x 0) (x 1)).trans (Finset.sum_congr rfl fun i _ => ?_)
    refine congrArg₂ (fun a b : EReal => a * b) (congrArg _ (Shape.idx_ext₂ ?_ rfl)) ((ldw2 x3 i (x 1)).trans (congrArg x3 (Shape.idx_ext₂ rfl ?_)))
    · show (x 0).val = 0 + 1 * (x 0).val
      omega
    · show 2048 + (x 1).val = 2048 + 1 * (x 1).val
      omega
  rcases List.mem_cons.mp hp with rfl | hp
  · have hx : x = ix2 (n0 := 512) (n1 := 768) (x 0) (x 1) := Shape.idx_ext₂ rfl rfl
    rw [hx]
    refine (prod1 _ _ (x 0) (x 1)).trans (Finset.sum_congr rfl fun i _ => ?_)
    refine congrArg₂ (fun a b : EReal => a * b) (congrArg _ (Shape.idx_ext₂ ?_ rfl)) ((ldw1 x3 i (x 1)).trans (congrArg x3 (Shape.idx_ext₂ rfl ?_)))
    · show (x 0).val = 0 + 1 * (x 0).val
      omega
    · show 1280 + (x 1).val = 1280 + 1 * (x 1).val
      omega
  · rcases List.mem_singleton.mp hp with rfl
    have hx : x = ix2 (n0 := 512) (n1 := 1280) (x 0) (x 1) := Shape.idx_ext₂ rfl rfl
    rw [hx]
    refine (prod0 (normed x0 x1 x2) _ (x 0) (x 1)).trans (Finset.sum_congr rfl fun i _ => ?_)
    refine congrArg₂ (fun a b : EReal => a * b) (congrArg _ (Shape.idx_ext₂ ?_ rfl)) ((ldw0 x3 i (x 1)).trans (congrArg x3 (Shape.idx_ext₂ rfl ?_)))
    · show (x 0).val = 0 + 1 * (x 0).val
      omega
    · show (x 1).val = 0 + 1 * (x 1).val
      omega

/-! ## The array of `u` -/

/-- One row of `u` at batch entry `b`, position `s`, column `k`. -/
def U (b : Fin 16) (s : Fin 2048) (k : Fin 512) : EReal :=
  ∑ i : Fin 1024, Row.lnorm (fun k => m ((c : Thread nD τ).loc main_arg0) (ix3 b s k)) (fun k => m ((c : Thread nD τ).loc main_arg1) (ix1 k))
      (fun k => m ((c : Thread nD τ).loc main_arg2) (ix1 k)) i
    * m ((c : Thread nD τ).loc main_arg3) (ix3 0 i ⟨1792 + k.val, by omega⟩)

theorem U_congr {b b' : Fin 16} {s s' : Fin 2048} {k k' : Fin 512} (hb : b.val = b'.val) (hs : s.val = s'.val) (hk : k.val = k'.val) :
    U m c b s k = U m c b' s' k' := by
  rw [Fin.ext hb, Fin.ext hs, Fin.ext hk]

/-- The block of `u` a point hands out, at an index. -/
theorem uAt_apply (t : Fin cfg0.N) (h : t.val ≠ 0) (r k : Fin 512) :
    uAt (F := Ideal) m c t (ix2 r k)
      = U m c ⟨(t.val - 1) / 4, by have := lt65 t; omega⟩ ⟨(t.val - 1) % 4 * 512 + r.val, by omega⟩ k := by
  have ht := lt65 t
  rw [uAt_pos m c t h]
  have e : tailCols (zAt (F := Ideal) m c ⟨t.val - 1, by omega⟩) (ix2 r k) = zAt (F := Ideal) m c ⟨t.val - 1, by omega⟩ (ix2 r ⟨1792 + k.val, by omega⟩) :=
    congrArg (zAt (F := Ideal) m c ⟨t.val - 1, by omega⟩)
      (Shape.idx_ext₂ (by show 0 + 1 * r.val = r.val; omega) (by show 1792 + 1 * k.val = 1792 + k.val; omega))
  refine e.trans ((zblk_apply _ _ _ _ _).trans (Finset.sum_congr rfl fun i _ => ?_))
  refine congrArg₂ (fun a b : EReal => a * b) ((normed_apply _ _ _ r i).trans ?_) (blk3 m c _ i ⟨1792 + k.val, by omega⟩)
  simp only [blk0 m c ⟨t.val - 1, by omega⟩ (by show t.val - 1 < 64; omega), blk1, blk2]

/-- The array of `u`: row `R` of the 32768 is batch entry `R / 2048`, position `R % 2048`. -/
def result : Buf (Elt Ideal) ((c : Thread nD τ).loc main_v45_1) := fun i : S32768x512.Idx =>
  U m c ⟨(i 0).val / 2048, by have : (i 0).val < 32768 := (i 0).isLt; omega⟩ ⟨(i 0).val % 2048, by omega⟩ (i 1)

/-- What a point that writes back writes is its block of the array. -/
theorem flushed_eq (t : Fin cfg0.N) (h : t.val ≠ 0) :
    (dats m 0 c).flushed 17 t = ((cfg0.win 17).blk t).view.read (Elt Ideal) (result m c) := by
  show (cfg0.win 17).cut (grid0.coords t) ((dats m 0 c).after 17 t) = _
  rw [after0_17]
  funext y
  have ht := lt65 t
  have e0 : ((win0_17.rect t).emb y 0 : ℕ) = (t.val - 1) * 512 + (y 0).val := by
    rw [win0_17.rect_emb_val t y 0, (index17 t).1]; rfl
  have e1 : ((win0_17.rect t).emb y 1 : ℕ) = (y 1).val := win0_17.rect_emb_val_of_index_zero t 1 (index17 t).2 y
  have hy : (y 0).val < 512 := (y 0).isLt
  have hx : (y : S512x512.Idx) = ix2 (n0 := 512) (n1 := 512) (y 0) (y 1) := Shape.idx_ext₂ rfl rfl
  refine ((congrArg (uAt (F := Ideal) m c t) hx).trans (uAt_apply m c t h (y 0) (y 1))).trans ?_
  show _ = result m c ((win0_17.rect t).emb y)
  unfold result
  refine U_congr m c ?_ ?_ e1.symm
  · show (t.val - 1) / 4 = _ / 2048
    rw [e0]; omega
  · show (t.val - 1) % 4 * 512 + (y 0).val = _ % 2048
    rw [e0]; omega

/-- Every index of the array lies in the block of some point that writes back. -/
theorem cover (i : S32768x512.Idx) :
    ∃ t : Fin cfg0.N, (cfg0.win 17).flush t = true ∧ i ∈ ((cfg0.win 17).blk t).view.set := by
  have h0 : (i 0).val < 32768 := (i 0).isLt
  have h1 : (i 1).val < 512 := (i 1).isLt
  have ht : (i 0).val / 512 + 1 < cfg0.N := by show _ < 65; omega
  refine ⟨⟨(i 0).val / 512 + 1, ht⟩, (flush17 _).mpr (by show (i 0).val / 512 + 1 ≠ 0; omega), ?_⟩
  have e := index17 ⟨(i 0).val / 512 + 1, ht⟩
  show i ∈ ((View.whole main_v45_1).slice (win0_17.rect ⟨(i 0).val / 512 + 1, ht⟩)).set
  rw [View.set_slice_whole, Rect.mem_set_unit]
  intro a
  match a with
  | ⟨0, _⟩ =>
    show win0_17.index ⟨(i 0).val / 512 + 1, ht⟩ 0 * 512 ≤ (i 0).val ∧ (i 0).val < win0_17.index ⟨(i 0).val / 512 + 1, ht⟩ 0 * 512 + 512
    rw [e.1]
    show ((i 0).val / 512 + 1 - 1) * 512 ≤ (i 0).val ∧ (i 0).val < ((i 0).val / 512 + 1 - 1) * 512 + 512
    omega
  | ⟨1, _⟩ =>
    show win0_17.index ⟨(i 0).val / 512 + 1, ht⟩ 1 * 512 ≤ (i 1).val ∧ (i 1).val < win0_17.index ⟨(i 0).val / 512 + 1, ht⟩ 1 * 512 + 512
    rw [e.2]; omega

/-- The array of `u` after the run. -/
theorem final : (dats m 0 c).arrAt 17 cfg0.N = result m c :=
  (dats m 0 c).arrAt_eq_of_cover 17 (result m c) (fun t ht => flushed_eq m c t ((flush17 t).mp ht)) cover

end Cert.Kernel2Ideal.Front

end
-- ==== Proof.RefFront.lean ====
/-
  What the front call's reference holds: row `s` of batch entry `b` normalised, projected onto the columns of `u`.
-/
module

public import proofs.«01_k».proof.Proof.Gen.Reference2Ideal.Read
public import proofs.«01_k».proof.Proof.Row
public import Idealize.ShloMosaic.Lib.StableHlo.ReadAt
public import Idealize.ShloMosaic.Lib.Tactic.WordOmega

@[expose] public section

noncomputable section

namespace Cert.Reference2Ideal.Rows

open Cert Idealize.ShloMosaic Idealize.ShloMosaic.Pointwise Cert.Reference2Ideal Cert.Reference2Ideal.Gen
  Cert.Reference2Ideal.Read

variable (x0 : FVec Ideal ⟨3, ![16, 2048, 1024]⟩ .f32) (x1 x2 : FVec Ideal ⟨1, ![1024]⟩ .f32)
    (x3 : FVec Ideal ⟨3, ![1, 1024, 2304]⟩ .f32)

/-- The mean of a row before the normalisation. -/
theorem mean3 (b : Fin 16) (s : Fin 2048) :
    val_main_v3 (F := Ideal) x0 (ix3 b s 0) = Row.mean fun k => x0 (ix3 b s k) := by
  pointwise [val_main_v3, val_main_v2, val_main_v1, val_main_v0, val_main_cst, val_main_cst_0]
  rfl

/-- A row after the normalisation. -/
theorem norm0 (b : Fin 16) (s : Fin 2048) (k : Fin 1024) :
    val_main_v23 (F := Ideal) x0 x1 x2 (ix3 b s k)
      = Row.lnorm (fun k => x0 (ix3 b s k)) (fun k => x1 (ix1 k)) (fun k => x2 (ix1 k)) k := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst_1, val_main_cst_2, val_main_cst_3]
  rw [mean3]
  rfl

/-- The result at an index. -/
theorem result_eq (b : Fin 16) (s : Fin 2048) (k : Fin 512) :
    val_main_v27 (F := Ideal) x0 x1 x2 x3 (ix2 ⟨b.val * 2048 + s.val, by omega⟩ k)
      = ∑ i : Fin 1024, Row.lnorm (fun k => x0 (ix3 b s k)) (fun k => x1 (ix1 k)) (fun k => x2 (ix1 k)) i
          * x3 (ix3 0 i ⟨1792 + k.val, by omega⟩) := by
  pointwise [val_main_v27, val_main_v26, val_main_v25, val_main_v24]
  simp only [norm0]

end Cert.Reference2Ideal.Rows

end
-- ==== Proof.FrontMatch.lean ====
/-
  The claims of the front call: the frames of its programs, and the equality over the extended reals of the array of `u` and
  the reference's result.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.FrontRows
public import proofs.«01_k».proof.Proof.RefFront
public import Idealize.ShloMosaic.Adequacy
public import Idealize.ShloMosaic.Init

@[expose] public section

noncomputable section

namespace Cert.FrontMatch

open Idealize.ShloMosaic Idealize.ShloMosaic.Pointwise Idealize.SL.Sem

/-- The front call's frame over words of bits, of the program over the extended reals read at words of bits. -/
def BitsFrame : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

/-- The two programs of the front call have the same text, so the one's frame is the other's. -/
theorem frame_same : Cert.quiescent_Kernel2 (hKernel2 := Cert.Kernel2.Gen.facts) = BitsFrame := by sl_kernel_rfl

/-- The front call's frame over words of bits. -/
theorem kernel_frame : Cert.quiescent_Kernel2 (hKernel2 := Cert.Kernel2.Gen.facts) :=
  frame_same.mpr fun m g _ => Cert.Kernel2Ideal.Front.frame (F := Bits) m g

/-- The front call's frame over the extended reals. -/
theorem kernelIdeal_frame : Cert.quiescent_Kernel2Ideal (hKernel2Ideal := Cert.Kernel2Ideal.Gen.facts) :=
  fun m g _ => Cert.Kernel2Ideal.Front.frame (F := Ideal) m g

/-- The front call's reference runs, its arguments end unchanged, and it holds no semaphore. -/
theorem reference_frame : Cert.quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run (F := Ideal) m g)

/-- The reference's result is the array of `u`. -/
theorem value (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v27 (F := Ideal)
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      = Cert.Kernel2Ideal.Front.result m c := by
  funext i
  have h0 : (i 0).val < 32768 := (i 0).isLt
  have e : (i : (⟨2, ![32768, 512]⟩ : Shape).Idx)
      = ix2 (n0 := 32768) (n1 := 512) ⟨(i 0).val / 2048 * 2048 + (i 0).val % 2048, by omega⟩ (i 1) :=
    Shape.idx_ext₂ (by show (i 0).val = (i 0).val / 2048 * 2048 + (i 0).val % 2048; omega) rfl
  refine (congrArg _ e).trans ?_
  exact Cert.Reference2Ideal.Rows.result_eq _ _ _ _ ⟨(i 0).val / 2048, by omega⟩ ⟨(i 0).val % 2048, by omega⟩ (i 1)

/-- The array of `u` and the reference's result are equal over the extended reals. -/
theorem results_equal : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Front.result m c, ?_, ?_⟩
  · exact (θ_run _ _ _).mono (fun r h c => ⟨(h c).1.trans (Cert.Kernel2Ideal.Front.final m c), (h c).2⟩)
      (Cert.Kernel2Ideal.Front.run_u (F := Ideal) m g)
  · refine (θ_run _ _ _).mono (fun r h c => ⟨?_, (h c).2⟩) (Cert.Reference2Ideal.Value.run (F := Ideal) m' g')
    refine (h c).1.trans ((Cert.Reference2Ideal.Read.val_main_v27_eq _ _ _ _).trans ?_)
    obtain ⟨h0, h1, h2, h3, -⟩ := hagree c
    refine Eq.trans ?_ (value m c)
    change Cert.Reference2Ideal.Read.val_main_v27 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) = _
    rw [h0, h1, h2, h3]

end Cert.FrontMatch

end
-- ==== Proof.lean ====
/-
  The certificate's claim: the frames of the three programs, and the equality of the kernel's and the reference's results
  over the extended reals where `u` is finite; and the same claims of the front call, whose result is `u`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Match
public import proofs.«01_k».proof.Proof.FrontMatch
public import Idealize.ShloMosaic.Adequacy
public import Idealize.ShloMosaic.Init

@[expose] public section

noncomputable section

namespace Cert.Proof

open Idealize.ShloMosaic Idealize.SL.Sem

/-- The precondition's one broadcast has matching shapes. -/
theorem pre_facts : Cert.Pre_u_finite.Facts := ⟨by decide⟩

/-- The reference runs, its arguments end unchanged, and it holds no semaphore. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- The kernel's and the reference's results are equal over the extended reals where `u` is finite. -/
theorem results_equal : Cert.algebraic_KernelIdeal_ReferenceIdeal_pre_u_finite (hKernelIdeal := Cert.KernelIdeal.Gen.facts)
    (hReferenceIdeal := Cert.ReferenceIdeal.Gen.facts) (hPre_u_finite := pre_facts) := by
  intro m g m' g' hpre hagree
  have := pre_facts
  refine ⟨fun c => Cert.KernelIdeal.Blocks.result m c, ?_, ?_⟩
  · exact (θ_run _ _ _).mono (fun r h c => ⟨(h c).1.trans (Cert.KernelIdeal.Blocks.final m c), (h c).2⟩)
      (Cert.KernelIdeal.Value.run_blocks m g)
  · refine (θ_run _ _ _).mono (fun r h c => ⟨?_, (h c).2⟩) (Cert.ReferenceIdeal.Value.run (F := Ideal) m' g')
    refine (h c).1.trans ((Cert.ReferenceIdeal.Read.val_main_v177_eq _).trans ?_)
    obtain ⟨h0, h1, h2, h3, h4, h5, h6, h7, h8, h9, h10, h11, h12, h13, h14, h15, h16, h17⟩ := hagree c
    refine Eq.trans ?_ (Cert.Match.value m c (Cert.Match.finite m hpre c))
    change Cert.ReferenceIdeal.Read.val_main_v177 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17)) = _
    rw [h0, h1, h2, h3, h4, h5, h6, h7, h8, h9, h10, h11, h12, h13, h14, h15, h16, h17]

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, pre_facts,
  fun m g _ => Cert.Kernel.Gen.frame m g,
  fun m g _ => Cert.KernelIdeal.Gen.frame m g,
  fun m g _ => Cert.KernelIdeal.Gen.frame m g,
  reference_frame,
  fun m g _ => reference_frame m g trivial,
  Cert.FrontMatch.kernel_frame,
  Cert.FrontMatch.kernelIdeal_frame,
  Cert.FrontMatch.reference_frame,
  trivial,
  results_equal,
  trivial,
  Cert.FrontMatch.results_equal⟩

end Cert.Proof

end
